-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S4x8192x768 : Shape := ⟨3, ![4, 8192, 768]⟩
abbrev S768x8 : Shape := ⟨2, ![768, 8]⟩
abbrev S8 : Shape := ⟨1, ![8]⟩
abbrev S8x768 : Shape := ⟨2, ![8, 768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S4x8192x768 .f32) (main_arg1 : FVec F S768x8 .f32) (main_arg2 : FVec F S8 .f32) (main_arg3 : FVec F S8x768 .f32) (main_arg4 : FVec F S8 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S768x8 .f32 := Host.absf main_arg1
  let main_cst_0 : FVec F S_ .f32 := constant S_ .f32 0x7F800000#32
  let main_v5 : FVec F S768x8 .f32 := broadcastInDim S768x8 ![] bcast_S_S768x8 main_cst_0
  let main_v6 : IVec S768x8 1 := cmpf .olt main_v4 main_v5
  let main_c_1 : IVec S_ 1 := constantI S_ 1 1#1
  let main_v7 : IVec S_ 1 := (fun x v => Host.reduce IntOp.andi x v reducesTo_S768x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S4x8192x768 : Shape := ⟨3, ![4, 8192, 768]⟩
abbrev S768x8 : Shape := ⟨2, ![768, 8]⟩
abbrev S8 : Shape := ⟨1, ![8]⟩
abbrev S8x768 : Shape := ⟨2, ![8, 768]⟩
abbrev S32768x768 : Shape := ⟨2, ![32768, 768]⟩
abbrev S768x16 : Shape := ⟨2, ![768, 16]⟩
abbrev S16 : Shape := ⟨1, ![16]⟩
abbrev S1x16 : Shape := ⟨2, ![1, 16]⟩
abbrev S16384x768 : Shape := ⟨2, ![16384, 768]⟩
abbrev S16x16384 : Shape := ⟨2, ![16, 16384]⟩
abbrev S4096x768 : Shape := ⟨2, ![4096, 768]⟩
abbrev S16x4096 : Shape := ⟨2, ![16, 4096]⟩
abbrev S4096x16 : Shape := ⟨2, ![4096, 16]⟩
abbrev S16384 : Shape := ⟨1, ![16384]⟩
abbrev S16x512 : Shape := ⟨2, ![16, 512]⟩
abbrev S512 : Shape := ⟨1, ![512]⟩
abbrev S_ : Shape := ⟨0, ![]⟩
abbrev S32768 : Shape := ⟨1, ![32768]⟩
abbrev S4x8192x1 : Shape := ⟨3, ![4, 8192, 1]⟩

abbrev nBuf : Table → Nat
  | .hbm => 18
  | .local .tc .vmem => 12
  | .local .scVector .vmem => 4
  | _ => 0

abbrev bufTy : (tb : Table) → Fin (nBuf tb) → BufTy
  | .hbm, ⟨0, _⟩ => ⟨S4x8192x768, .f32⟩
  | .hbm, ⟨1, _⟩ => ⟨S768x8, .f32⟩
  | .hbm, ⟨2, _⟩ => ⟨S8, .f32⟩
  | .hbm, ⟨3, _⟩ => ⟨S8x768, .f32⟩
  | .hbm, ⟨4, _⟩ => ⟨S8, .f32⟩
  | .hbm, ⟨5, _⟩ => ⟨S32768x768, .f32⟩
  | .hbm, ⟨6, _⟩ => ⟨S768x8, .f32⟩
  | .hbm, ⟨7, _⟩ => ⟨S768x16, .f32⟩
  | .hbm, ⟨8, _⟩ => ⟨S16, .f32⟩
  | .hbm, ⟨9, _⟩ => ⟨S1x16, .f32⟩
  | .hbm, ⟨10, _⟩ => ⟨S16384x768, .f32⟩
  | .hbm, ⟨11, _⟩ => ⟨S16x16384, .f32⟩
  | .hbm, ⟨12, _⟩ => ⟨S16384, .f32⟩
  | .hbm, ⟨13, _⟩ => ⟨S16384x768, .f32⟩
  | .hbm, ⟨14, _⟩ => ⟨S16x16384, .f32⟩
  | .hbm, ⟨15, _⟩ => ⟨S16384, .f32⟩
  | .hbm, ⟨16, _⟩ => ⟨S32768, .f32⟩
  | .hbm, ⟨17, _⟩ => ⟨S4x8192x1, .f32⟩
  | .local .tc .vmem, ⟨0, _⟩ => ⟨S4096x768, .f32⟩
  | .local .tc .vmem, ⟨1, _⟩ => ⟨S4096x768, .f32⟩
  | .local .tc .vmem, ⟨2, _⟩ => ⟨S768x16, .f32⟩
  | .local .tc .vmem, ⟨3, _⟩ => ⟨S1x16, .f32⟩
  | .local .tc .vmem, ⟨4, _⟩ => ⟨S16x4096, .f32⟩
  | .local .tc .vmem, ⟨5, _⟩ => ⟨S16x4096, .f32⟩
  | .local .tc .vmem, ⟨6, _⟩ => ⟨S4096x768, .f32⟩
  | .local .tc .vmem, ⟨7, _⟩ => ⟨S4096x768, .f32⟩
  | .local .tc .vmem, ⟨8, _⟩ => ⟨S768x16, .f32⟩
  | .local .tc .vmem, ⟨9, _⟩ => ⟨S1x16, .f32⟩
  | .local .tc .vmem, ⟨10, _⟩ => ⟨S16x4096, .f32⟩
  | .local .tc .vmem, ⟨11, _⟩ => ⟨S16x4096, .f32⟩
  | .local .scVector .vmem, ⟨0, _⟩ => ⟨S16x512, .f32⟩
  | .local .scVector .vmem, ⟨1, _⟩ => ⟨S512, .f32⟩
  | .local .scVector .vmem, ⟨2, _⟩ => ⟨S16x512, .f32⟩
  | .local .scVector .vmem, ⟨3, _⟩ => ⟨S512, .f32⟩
  | _, _ => ⟨S4x8192x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v6_scv : Ref sig .scVector := ⟨.hbm, 11, rfl⟩
abbrev main_v7_scv : Ref sig .scVector := ⟨.hbm, 12, rfl⟩
abbrev main_v9_scv : Ref sig .scVector := ⟨.hbm, 14, rfl⟩
abbrev main_v10_scv : Ref sig .scVector := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg3_1 : Ref sig .tc := ⟨.vmem, 11, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem3_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k1_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k1_off2 (k1_t1 : Fin k1_t1_loop.trips) : Fin 2 → Nat :=
  let c0_i32_2 : BitVec 32 := 0#32
  let v5 : Index := Scalar.indexCast c0_i32_2
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v6 : Index := Scalar.indexCast v4
  ![0, v6.toNat]
def k1_off3 (k1_t1 : Fin k1_t1_loop.trips) : Fin 2 → Nat :=
  let c1_i32_3 : BitVec 32 := 1#32
  let v9 : Index := Scalar.indexCast c1_i32_3
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v10 : Index := Scalar.indexCast v4
  ![1, v10.toNat]
def k1_off4 (k1_t1 : Fin k1_t1_loop.trips) : Fin 2 → Nat :=
  let c2_i32_4 : BitVec 32 := 2#32
  let v13 : Index := Scalar.indexCast c2_i32_4
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v14 : Index := Scalar.indexCast v4
  ![2, v14.toNat]
def k1_off5 (k1_t1 : Fin k1_t1_loop.trips) : Fin 2 → Nat :=
  let c3_i32 : BitVec 32 := 3#32
  let v17 : Index := Scalar.indexCast c3_i32
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v18 : Index := Scalar.indexCast v4
  ![3, v18.toNat]
def k1_off6 (k1_t1 : Fin k1_t1_loop.trips) : Fin 2 → Nat :=
  let c4_i32 : BitVec 32 := 4#32
  let v21 : Index := Scalar.indexCast c4_i32
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v22 : Index := Scalar.indexCast v4
  ![4, v22.toNat]
def k1_off7 (k1_t1 : Fin k1_t1_loop.trips) : Fin 2 → Nat :=
  let c5_i32 : BitVec 32 := 5#32
  let v25 : Index := Scalar.indexCast c5_i32
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v26 : Index := Scalar.indexCast v4
  ![5, v26.toNat]
def k1_off8 (k1_t1 : Fin k1_t1_loop.trips) : Fin 2 → Nat :=
  let c6_i32 : BitVec 32 := 6#32
  let v29 : Index := Scalar.indexCast c6_i32
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v30 : Index := Scalar.indexCast v4
  ![6, v30.toNat]
def k1_off9 (k1_t1 : Fin k1_t1_loop.trips) : Fin 2 → Nat :=
  let c7_i32 : BitVec 32 := 7#32
  let v33 : Index := Scalar.indexCast c7_i32
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v34 : Index := Scalar.indexCast v4
  ![7, v34.toNat]
def k1_off10 (k1_t1 : Fin k1_t1_loop.trips) : Fin 2 → Nat :=
  let c8_i32 : BitVec 32 := 8#32
  let v37 : Index := Scalar.indexCast c8_i32
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v38 : Index := Scalar.indexCast v4
  ![8, v38.toNat]
def k1_off11 (k1_t1 : Fin k1_t1_loop.trips) : Fin 2 → Nat :=
  let c9_i32 : BitVec 32 := 9#32
  let v41 : Index := Scalar.indexCast c9_i32
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v42 : Index := Scalar.indexCast v4
  ![9, v42.toNat]
def k1_off12 (k1_t1 : Fin k1_t1_loop.trips) : Fin 2 → Nat :=
  let c10_i32 : BitVec 32 := 10#32
  let v45 : Index := Scalar.indexCast c10_i32
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v46 : Index := Scalar.indexCast v4
  ![10, v46.toNat]
def k1_off13 (k1_t1 : Fin k1_t1_loop.trips) : Fin 2 → Nat :=
  let c11_i32 : BitVec 32 := 11#32
  let v49 : Index := Scalar.indexCast c11_i32
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v50 : Index := Scalar.indexCast v4
  ![11, v50.toNat]
def k1_off14 (k1_t1 : Fin k1_t1_loop.trips) : Fin 2 → Nat :=
  let c12_i32 : BitVec 32 := 12#32
  let v53 : Index := Scalar.indexCast c12_i32
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v54 : Index := Scalar.indexCast v4
  ![12, v54.toNat]
def k1_off15 (k1_t1 : Fin k1_t1_loop.trips) : Fin 2 → Nat :=
  let c13_i32 : BitVec 32 := 13#32
  let v57 : Index := Scalar.indexCast c13_i32
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v58 : Index := Scalar.indexCast v4
  ![13, v58.toNat]
def k1_off16 (k1_t1 : Fin k1_t1_loop.trips) : Fin 2 → Nat :=
  let c14_i32 : BitVec 32 := 14#32
  let v61 : Index := Scalar.indexCast c14_i32
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v62 : Index := Scalar.indexCast v4
  ![14, v62.toNat]
def k1_off17 (k1_t1 : Fin k1_t1_loop.trips) : Fin 2 → Nat :=
  let c15_i32 : BitVec 32 := 15#32
  let v65 : Index := Scalar.indexCast c15_i32
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v66 : Index := Scalar.indexCast v4
  ![15, v66.toNat]
def k1_off18 (k1_t1 : Fin k1_t1_loop.trips) : Fin 1 → Nat :=
  let c0_i32_0 : BitVec 32 := 0#32
  let c1_i32 : BitVec 32 := 1#32
  let arg6 : BitVec 32 := Scf.iv c0_i32_0 c1_i32 k1_t1
  let c16_i32 : BitVec 32 := 16#32
  let v4 : BitVec 32 := Scalar.muli arg6 c16_i32
  let v296 : Index := Scalar.indexCast v4
  ![v296.toNat]
def k1_off19 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4096x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S16x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 16], ![false, false]⟩

def k3_off1 (i : grid3.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k3_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k3_off2 (k3_t1 : Fin k3_t1_loop.trips) : Fin 2 → Nat :=
  let c0_i32_2 : BitVec 32 := 0#32
  let v5 : Index := Scalar.indexCast c0_i32_2
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v6 : Index := Scalar.indexCast v4
  ![0, v6.toNat]
def k3_off3 (k3_t1 : Fin k3_t1_loop.trips) : Fin 2 → Nat :=
  let c1_i32_3 : BitVec 32 := 1#32
  let v9 : Index := Scalar.indexCast c1_i32_3
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v10 : Index := Scalar.indexCast v4
  ![1, v10.toNat]
def k3_off4 (k3_t1 : Fin k3_t1_loop.trips) : Fin 2 → Nat :=
  let c2_i32_4 : BitVec 32 := 2#32
  let v13 : Index := Scalar.indexCast c2_i32_4
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v14 : Index := Scalar.indexCast v4
  ![2, v14.toNat]
def k3_off5 (k3_t1 : Fin k3_t1_loop.trips) : Fin 2 → Nat :=
  let c3_i32 : BitVec 32 := 3#32
  let v17 : Index := Scalar.indexCast c3_i32
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v18 : Index := Scalar.indexCast v4
  ![3, v18.toNat]
def k3_off6 (k3_t1 : Fin k3_t1_loop.trips) : Fin 2 → Nat :=
  let c4_i32 : BitVec 32 := 4#32
  let v21 : Index := Scalar.indexCast c4_i32
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v22 : Index := Scalar.indexCast v4
  ![4, v22.toNat]
def k3_off7 (k3_t1 : Fin k3_t1_loop.trips) : Fin 2 → Nat :=
  let c5_i32 : BitVec 32 := 5#32
  let v25 : Index := Scalar.indexCast c5_i32
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v26 : Index := Scalar.indexCast v4
  ![5, v26.toNat]
def k3_off8 (k3_t1 : Fin k3_t1_loop.trips) : Fin 2 → Nat :=
  let c6_i32 : BitVec 32 := 6#32
  let v29 : Index := Scalar.indexCast c6_i32
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v30 : Index := Scalar.indexCast v4
  ![6, v30.toNat]
def k3_off9 (k3_t1 : Fin k3_t1_loop.trips) : Fin 2 → Nat :=
  let c7_i32 : BitVec 32 := 7#32
  let v33 : Index := Scalar.indexCast c7_i32
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v34 : Index := Scalar.indexCast v4
  ![7, v34.toNat]
def k3_off10 (k3_t1 : Fin k3_t1_loop.trips) : Fin 2 → Nat :=
  let c8_i32 : BitVec 32 := 8#32
  let v37 : Index := Scalar.indexCast c8_i32
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v38 : Index := Scalar.indexCast v4
  ![8, v38.toNat]
def k3_off11 (k3_t1 : Fin k3_t1_loop.trips) : Fin 2 → Nat :=
  let c9_i32 : BitVec 32 := 9#32
  let v41 : Index := Scalar.indexCast c9_i32
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v42 : Index := Scalar.indexCast v4
  ![9, v42.toNat]
def k3_off12 (k3_t1 : Fin k3_t1_loop.trips) : Fin 2 → Nat :=
  let c10_i32 : BitVec 32 := 10#32
  let v45 : Index := Scalar.indexCast c10_i32
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v46 : Index := Scalar.indexCast v4
  ![10, v46.toNat]
def k3_off13 (k3_t1 : Fin k3_t1_loop.trips) : Fin 2 → Nat :=
  let c11_i32 : BitVec 32 := 11#32
  let v49 : Index := Scalar.indexCast c11_i32
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v50 : Index := Scalar.indexCast v4
  ![11, v50.toNat]
def k3_off14 (k3_t1 : Fin k3_t1_loop.trips) : Fin 2 → Nat :=
  let c12_i32 : BitVec 32 := 12#32
  let v53 : Index := Scalar.indexCast c12_i32
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v54 : Index := Scalar.indexCast v4
  ![12, v54.toNat]
def k3_off15 (k3_t1 : Fin k3_t1_loop.trips) : Fin 2 → Nat :=
  let c13_i32 : BitVec 32 := 13#32
  let v57 : Index := Scalar.indexCast c13_i32
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v58 : Index := Scalar.indexCast v4
  ![13, v58.toNat]
def k3_off16 (k3_t1 : Fin k3_t1_loop.trips) : Fin 2 → Nat :=
  let c14_i32 : BitVec 32 := 14#32
  let v61 : Index := Scalar.indexCast c14_i32
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v62 : Index := Scalar.indexCast v4
  ![14, v62.toNat]
def k3_off17 (k3_t1 : Fin k3_t1_loop.trips) : Fin 2 → Nat :=
  let c15_i32 : BitVec 32 := 15#32
  let v65 : Index := Scalar.indexCast c15_i32
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v66 : Index := Scalar.indexCast v4
  ![15, v66.toNat]
def k3_off18 (k3_t1 : Fin k3_t1_loop.trips) : Fin 1 → Nat :=
  let c0_i32_0 : BitVec 32 := 0#32
  let c1_i32 : BitVec 32 := 1#32
  let arg6 : BitVec 32 := Scf.iv c0_i32_0 c1_i32 k3_t1
  let c16_i32 : BitVec 32 := 16#32
  let v4 : BitVec 32 := Scalar.muli arg6 c16_i32
  let v296 : Index := Scalar.indexCast v4
  ![v296.toNat]
def k3_off19 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S4x8192x768 : Shape := ⟨3, ![4, 8192, 768]⟩
abbrev S768x8 : Shape := ⟨2, ![768, 8]⟩
abbrev S8 : Shape := ⟨1, ![8]⟩
abbrev S8x768 : Shape := ⟨2, ![8, 768]⟩
abbrev S4x8192x8 : Shape := ⟨3, ![4, 8192, 8]⟩
abbrev S1x1x8 : Shape := ⟨3, ![1, 1, 8]⟩
abbrev S4x8192x2 : Shape := ⟨3, ![4, 8192, 2]⟩
abbrev S_ : Shape := ⟨0, ![]⟩
abbrev S4x8192 : Shape := ⟨2, ![4, 8192]⟩
abbrev S4x8192x1 : Shape := ⟨3, ![4, 8192, 1]⟩
abbrev S4x8192x2x1 : Shape := ⟨4, ![4, 8192, 2, 1]⟩
abbrev S1x1x1x8 : Shape := ⟨4, ![1, 1, 1, 8]⟩
abbrev S4x8192x2x8 : Shape := ⟨4, ![4, 8192, 2, 8]⟩

abbrev nBuf : Space → Nat
  | .hbm => 52
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S768x8, .f32⟩
  | .hbm, ⟨2, _⟩ => ⟨S8, .f32⟩
  | .hbm, ⟨3, _⟩ => ⟨S8x768, .f32⟩
  | .hbm, ⟨4, _⟩ => ⟨S8, .f32⟩
  | .hbm, ⟨5, _⟩ => ⟨S4x8192x8, .f32⟩
  | .hbm, ⟨6, _⟩ => ⟨S1x1x8, .f32⟩
  | .hbm, ⟨7, _⟩ => ⟨S4x8192x8, .f32⟩
  | .hbm, ⟨8, _⟩ => ⟨S4x8192x8, .f32⟩
  | .hbm, ⟨9, _⟩ => ⟨S4x8192x2, .f32⟩
  | .hbm, ⟨10, _⟩ => ⟨S4x8192x2, .i32⟩
  | .hbm, ⟨11, _⟩ => ⟨S_, .f32⟩
  | .hbm, ⟨12, _⟩ => ⟨S4x8192, .f32⟩
  | .hbm, ⟨13, _⟩ => ⟨S_, .f32⟩
  | .hbm, ⟨14, _⟩ => ⟨S4x8192, .f32⟩
  | .hbm, ⟨15, _⟩ => ⟨S4x8192, .f32⟩
  | .hbm, ⟨16, _⟩ => ⟨S4x8192x1, .f32⟩
  | .hbm, ⟨17, _⟩ => ⟨S4x8192x2, .f32⟩
  | .hbm, ⟨18, _⟩ => ⟨S4x8192x2, .f32⟩
  | .hbm, ⟨19, _⟩ => ⟨S4x8192x2, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S4x8192x2, .f32⟩
  | .hbm, ⟨24, _⟩ => ⟨S4x8192x2, .f32⟩
  | .hbm, ⟨25, _⟩ => ⟨S4x8192x2x1, .i32⟩
  | .hbm, ⟨26, _⟩ => ⟨S1x1x1x8, .i32⟩
  | .hbm, ⟨27, _⟩ => ⟨S4x8192x2x8, .i32⟩
  | .hbm, ⟨28, _⟩ => ⟨S4x8192x2x8, .i32⟩
  | .hbm, ⟨29, _⟩ => ⟨S4x8192x2x8, .i1⟩
  | .hbm, ⟨30, _⟩ => ⟨S4x8192x2x8, .f32⟩
  | .hbm, ⟨31, _⟩ => ⟨S4x8192x2x1, .f32⟩
  | .hbm, ⟨32, _⟩ => ⟨S4x8192x2x8, .f32⟩
  | .hbm, ⟨33, _⟩ => ⟨S4x8192x2x8, .f32⟩
  | .hbm, ⟨34, _⟩ => ⟨S_, .f32⟩
  | .hbm, ⟨35, _⟩ => ⟨S4x8192x8, .f32⟩
  | .hbm, ⟨36, _⟩ => ⟨S4x8192x8, .f32⟩
  | .hbm, ⟨37, _⟩ => ⟨S1x1x8, .f32⟩
  | .hbm, ⟨38, _⟩ => ⟨S4x8192x8, .f32⟩
  | .hbm, ⟨39, _⟩ => ⟨S4x8192x8, .f32⟩
  | .hbm, ⟨40, _⟩ => ⟨S4x8192x8, .f32⟩
  | .hbm, ⟨41, _⟩ => ⟨S4x8192x8, .f32⟩
  | .hbm, ⟨42, _⟩ => ⟨S_, .f32⟩
  | .hbm, ⟨43, _⟩ => ⟨S4x8192x8, .f32⟩
  | .hbm, ⟨44, _⟩ => ⟨S4x8192x8, .f32⟩
  | .hbm, ⟨45, _⟩ => ⟨S_, .f32⟩
  | .hbm, ⟨46, _⟩ => ⟨S4x8192x8, .f32⟩
  | .hbm, ⟨47, _⟩ => ⟨S4x8192x8, .f32⟩
  | .hbm, ⟨48, _⟩ => ⟨S4x8192x8, .f32⟩
  | .hbm, ⟨49, _⟩ => ⟨S_, .f32⟩
  | .hbm, ⟨50, _⟩ => ⟨S4x8192, .f32⟩
  | .hbm, ⟨51, _⟩ => ⟨S4x8192x1, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Proof.Lane.lean ====
/-
  One row of the routed result, as the SparseCore task computes it in one lane of a vector: from the sixteen numbers of the
  row (eight router logits and eight expert logits) to the weighted mean of the two chosen experts' outputs. Stated over any
  float values, in the order of operations of the kernel, so that a run of the kernel ends with exactly this value.
-/
module

public import proofs.«01_k».proof.KernelIdeal
public import Idealize.ShloMosaic.Lib.ValueIdxCore

@[expose] public section

noncomputable section

namespace Cert.Proof

open Cert.KernelIdeal Idealize.ShloMosaic Idealize.ShloMosaic.ValueIdx

variable {F : FTy → Type} [FloatOps F] [Named F]

/-- The numbers one, zero and the mask's large negative number. -/
abbrev one : F .f32 := Scalar.ofBits .f32 0x3F800000#32
abbrev zero : F .f32 := Scalar.ofBits .f32 0x00000000#32
abbrev neg : F .f32 := Named.named κ "neg" 0xFF61B1E6#32

/-- The largest of eight numbers, taken from the left. -/
def top (l : Fin 8 → F .f32) : F .f32 :=
  FloatOps.maximumf (FloatOps.maximumf (FloatOps.maximumf (FloatOps.maximumf (FloatOps.maximumf (FloatOps.maximumf (FloatOps.maximumf
    (l 0) (l 1)) (l 2)) (l 3)) (l 4)) (l 5)) (l 6)) (l 7)

/-- One where number `e` is the largest, else zero. -/
def hit (l : Fin 8 → F .f32) (e : Fin 8) : F .f32 :=
  Scalar.select (FloatOps.cmpf .oeq (l e) (top l)) one zero

/-- The largest of the marks `0, …, n`. -/
def seen (h : Fin 8 → F .f32) : ℕ → F .f32
  | 0 => h 0
  | n + 1 => FloatOps.maximumf (seen h n) (h (Fin.ofNat 8 (n + 1)))

/-- The marks `h` with every mark after the first one removed. -/
def first (h : Fin 8 → F .f32) (e : Fin 8) : F .f32 :=
  match e with
  | 0 => h 0
  | 1 => FloatOps.mulf (h 1) (FloatOps.subf one (seen h 0))
  | 2 => FloatOps.mulf (h 2) (FloatOps.subf one (seen h 1))
  | 3 => FloatOps.mulf (h 3) (FloatOps.subf one (seen h 2))
  | 4 => FloatOps.mulf (h 4) (FloatOps.subf one (seen h 3))
  | 5 => FloatOps.mulf (h 5) (FloatOps.subf one (seen h 4))
  | 6 => FloatOps.mulf (h 6) (FloatOps.subf one (seen h 5))
  | 7 => FloatOps.mulf (h 7) (FloatOps.subf one (seen h 6))

/-- The logits with the first largest one masked. -/
def masked (l : Fin 8 → F .f32) (e : Fin 8) : F .f32 :=
  FloatOps.addf (l e) (FloatOps.mulf (first (hit l) e) neg)

/-- Expert `e`'s weight before the division by the weights' sum: zero for an expert that is not chosen. -/
def weight (l : Fin 8 → F .f32) (e : Fin 8) : F .f32 :=
  FloatOps.mulf (FloatOps.addf (first (hit l) e) (first (hit (masked l)) e)) (FloatOps.exp (FloatOps.subf (l e) (top l)))

/-- The logistic function of an expert's logit. -/
def sigm (z : F .f32) : F .f32 :=
  FloatOps.divf one (FloatOps.addf one (FloatOps.exp (FloatOps.subf zero z)))

/-- The sum of eight numbers from zero, taken from the left. -/
def sum8 (w : Fin 8 → F .f32) : F .f32 :=
  FloatOps.addf (FloatOps.addf (FloatOps.addf (FloatOps.addf (FloatOps.addf (FloatOps.addf (FloatOps.addf (FloatOps.addf
    zero (w 0)) (w 1)) (w 2)) (w 3)) (w 4)) (w 5)) (w 6)) (w 7)

/-- The row's result, from its router logits `l` and its experts' logits `z`. -/
def mix (l z : Fin 8 → F .f32) : F .f32 :=
  FloatOps.divf (sum8 fun e => FloatOps.mulf (weight l e) (sigm (z e))) (sum8 (weight l))

/-- The row's result, from its sixteen numbers. -/
def lane (y : Fin 16 → F .f32) : F .f32 := mix (fun e => y (e.castLE (by omega))) (fun e => y (e.natAdd 8))

/-- The routed results of a whole 16 × 16384 array of logits, one per column. -/
def routeOut (Y : S16x16384.Idx → F .f32) : S16384.Idx → F .f32 := fun i => lane fun e => Y (ix2 e (i 0))

end Cert.Proof

end
-- ==== Proof.Common.lean ====
/-
  What the proof's parts share: the program as the launch theorem sees it, the resource algebra (the handshakes' rounds, the
  pipelines' rounds, the transfers' counters), the arrays' locations, and what each SparseCore call takes and brings back.
  A call takes the 16 × 16384 array of logits and the result array, cut into thirty-two column blocks of 512: one for each of
  the sixteen tasks of the two SparseCores. Each task brings its block of the result back routed.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Lane

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 2) fun p => (pcfgs (F := F) p).Adm
/-- The two SparseCore calls. -/
abbrev K : SparseCore.Cfg τ sig (ΛP (F := F)) 2 := sc (F := F)
/-- The bodies' table, lifted over the two pipelines. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := (UH × UP) × Counters

local notation "𝕄" => MT nD τ sig (HIx 2) (Elt F) ℕ UU ℕ

/-- The handshakes' rounds inside the machine's algebra, -/
def EH : Emb UH (MT nD τ sig (HIx 2) (Elt F) ℕ UU ℕ) :=
  ((Emb.inl : Emb UH (UH × UP)).trans Emb.inl).trans (uEmb (nD := nD) (sig := sig) (Ix := HIx 2) (Val := Elt F) (Name := ℕ) (U := UU) (Lvl := ℕ)).toEmb
/-- and the pipelines'. -/
def EP : Emb UP (MT nD τ sig (HIx 2) (Elt F) ℕ UU ℕ) :=
  ((Emb.inr : Emb UP (UH × UP)).trans Emb.inl).trans (uEmb (nD := nD) (sig := sig) (Ix := HIx 2) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The arrays and the blocks -/

/-- The logits and the results of the two halves, as locations of device `d`. -/
abbrev yLoc (d : Dev nD) : Loc nD τ sig := (SparseCore.T d).loc main_v6
abbrev oLoc (d : Dev nD) : Loc nD τ sig := (SparseCore.T d).loc main_v7
abbrev yLoc' (d : Dev nD) : Loc nD τ sig := (SparseCore.T d).loc main_v9
abbrev oLoc' (d : Dev nD) : Loc nD τ sig := (SparseCore.T d).loc main_v10

/-- The coordinates of task `i` of SparseCore `c`. -/
def crd (c : Fin 2) (i : Fin 16) : grid1.Coords :=
  fun | 0 => c | 1 => i | ⟨_ + 2, h⟩ => absurd h (Nat.not_lt.2 (Nat.le_add_left _ _))

/-- A task's columns of the logits and its part of the result, as the task's copies address them. -/
abbrev colR (L : grid1.Coords) : Rect S16x16384 := Rect.unit (s := S16x16384) (k1_off1 L) S16x512.size (k1_off1_inb L)
abbrev segR (L : grid1.Coords) : Rect S16384 := Rect.unit (s := S16384) (k1_off19 L) S512.size (k1_off19_inb L)

/-- The columns as a set of indices of the whole array. -/
abbrev colSet (L : grid1.Coords) : Finset S16x16384.Idx := (colR L).set
abbrev segSet (L : grid1.Coords) : Finset S16384.Idx := (segR L).set

/-! ## What the handshakes carry -/

/-- What task `L` of the first call is handed: its columns of the logits `Y`, its part of the result at any contents; -/
abbrev goA (Y : (d : Dev nD) → Buf (Elt F) (yLoc d)) (d : Dev nD) (L : grid1.Coords) : sProp 𝕄 :=
  iprop((yLoc d ↦[colSet L]{fullShare} Y d) ∗ ∃ f : Buf (Elt F) (oLoc d), oLoc d ↦[segSet L]{fullShare} f)
/-- what it brings back: the columns unchanged and its part of the result routed. -/
abbrev tdA (Y : (d : Dev nD) → Buf (Elt F) (yLoc d)) (d : Dev nD) (L : grid1.Coords) : sProp 𝕄 :=
  iprop((yLoc d ↦[colSet L]{fullShare} Y d) ∗ oLoc d ↦[segSet L]{fullShare} (routeOut (F := F) (Y d) : Buf (Elt F) (oLoc d)))
/-- The same for the second call. -/
abbrev goB (Y : (d : Dev nD) → Buf (Elt F) (yLoc' d)) (d : Dev nD) (L : grid1.Coords) : sProp 𝕄 :=
  iprop((yLoc' d ↦[colSet L]{fullShare} Y d) ∗ ∃ f : Buf (Elt F) (oLoc' d), oLoc' d ↦[segSet L]{fullShare} f)
abbrev tdB (Y : (d : Dev nD) → Buf (Elt F) (yLoc' d)) (d : Dev nD) (L : grid1.Coords) : sProp 𝕄 :=
  iprop((yLoc' d ↦[colSet L]{fullShare} Y d) ∗ oLoc' d ↦[segSet L]{fullShare} (routeOut (F := F) (Y d) : Buf (Elt F) (oLoc' d)))

variable (YA : (d : Dev nD) → Buf (Elt F) (yLoc d)) (YB : (d : Dev nD) → Buf (Elt F) (yLoc' d))

/-- The two calls' payloads: a SparseCore is handed its sixteen tasks' shares and brings them back. -/
def P : (K (F := F)).Pay (nD := nD) (Val := Elt F) (Name := ℕ) (U := UU) where
  st := fun q d c => match q with
    | 0 => bigSep Finset.univ fun i : Fin 16 => goA YA d (crd c i)
    | 1 => bigSep Finset.univ fun i : Fin 16 => goB YB d (crd c i)
  dn := fun q d c => match q with
    | 0 => bigSep Finset.univ fun i : Fin 16 => tdA YA d (crd c i)
    | 1 => bigSep Finset.univ fun i : Fin 16 => tdB YB d (crd c i)
  go := fun q d c i => match q with | 0 => goA YA d (crd c i) | 1 => goB YB d (crd c i)
  td := fun q d c i => match q with | 0 => tdA YA d (crd c i) | 1 => tdB YB d (crd c i)
  x := fun _ _ => iprop(emp)

instance P_storable : (P YA YB).IsStorable where
  st q d c := match q with
    | 0 => (inferInstance : BI.Storable (upEmb : UEmb _ 𝕄) (bigSep Finset.univ fun i : Fin 16 => goA YA d (crd c i)))
    | 1 => (inferInstance : BI.Storable (upEmb : UEmb _ 𝕄) (bigSep Finset.univ fun i : Fin 16 => goB YB d (crd c i)))
  dn q d c := match q with
    | 0 => (inferInstance : BI.Storable (upEmb : UEmb _ 𝕄) (bigSep Finset.univ fun i : Fin 16 => tdA YA d (crd c i)))
    | 1 => (inferInstance : BI.Storable (upEmb : UEmb _ 𝕄) (bigSep Finset.univ fun i : Fin 16 => tdB YB d (crd c i)))
  go q d c i := match q with
    | 0 => (inferInstance : BI.Storable (upEmb : UEmb _ 𝕄) (goA YA d (crd c i)))
    | 1 => (inferInstance : BI.Storable (upEmb : UEmb _ 𝕄) (goB YB d (crd c i)))
  td q d c i := match q with
    | 0 => (inferInstance : BI.Storable (upEmb : UEmb _ 𝕄) (tdA YA d (crd c i)))
    | 1 => (inferInstance : BI.Storable (upEmb : UEmb _ 𝕄) (tdB YB d (crd c i)))

end Cert.Proof

end
-- ==== Proof.Proj.lean ====
/-
  The TensorCore regions: each projects four blocks of 4096 rows of the input on the sixteen columns of weights, adds the
  bias and stores the block transposed. Per region: the body's triple, the proof data and the segment that the main run enters.
-/
module

public import proofs.«01_k».proof.Proof.Common
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.Pipeline.ValueKit
public import Idealize.ShloMosaic.Lib.VecWindow
public import Idealize.ShloMosaic.Lib.Writes

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 2) (Elt F) ℕ UU ℕ

/-- The body on whole buffers: the three operands stay, the result's buffer ends at the projected block. -/
theorem proj_body (d : Dev nD) (i : grid0.Coords) (M0 : Memref sig .tc .vmem S4096x768 .f32) (h0 : M0.IsWhole) (M1 : Memref sig .tc .vmem S768x16 .f32) (h1 : M1.IsWhole)
    (M2 : Memref sig .tc .vmem S1x16 .f32) (h2 : M2.IsWhole) (M3 : Memref sig .tc .vmem S16x4096 .f32) (h3 : M3.IsWhole)
    (X : S4096x768.Idx → F .f32) (W : S768x16.Idx → F .f32) (b : S1x16.Idx → F .f32) (Z : S16x4096.Idx → F .f32) (Q : PUnit → sProp 𝕄) :
    iprop(owns (T d) M0 fullShare X ∗ owns (T d) M1 fullShare W ∗ owns (T d) M2 fullShare b ∗ owns (T d) M3 fullShare Z
        ∗ ((owns (T d) M0 fullShare X ∗ owns (T d) M1 fullShare W ∗ owns (T d) M2 fullShare b ∗ owns (T d) M3 fullShare (k0_pay1 X W b)) -∗ Q ⟨⟩))
      ⊢ wp frame (wpE (defs₀ (F := F)) 𝒱₀ (T d) none) Set.univ (cc0__proj_body (F := F) i M0 h0 M1 h1 M2 h2 M3 h3) Q := by
  rw [cc0__proj_body_eq_skeleton]
  unfold cc0__proj_body_skel owns
  iintro ⟨⟨%f0, %e0, H0⟩, ⟨%f1, %e1, H1⟩, ⟨%f2, %e2, H2⟩, ⟨%f3, %e3, H3⟩, Hk⟩
  sl_exec
  sl_step
  iapply Hk
  subst e0 e1 e2
  isplitl [H0]; · iexists f0; isplitr; (· ipureintro; rfl); iexact H0
  isplitl [H1]; · iexists f1; isplitr; (· ipureintro; rfl); iexact H1
  isplitl [H2]; · iexists f2; isplitr; (· ipureintro; rfl); iexact H2
  iexists _; isplitr; swap; (· iexact H3); ipureintro
  rw [View.read_writes_full, View.readAt_full, View.readAt_full, View.readAt_full]

/-- What the TensorCore owes the calls to come is owed at the calls' indices only. -/
theorem Otc_none (d : Dev nD) (n : ℕ) (g : GSem nD τ sig) : (K (F := F)).Otc d n g none = 0 := by
  unfold SparseCore.Cfg.Otc
  rw [Finset.sum_apply, Finsupp.finsetSum_apply]
  refine Finset.sum_eq_zero fun q _ => ?_
  split
  · rw [Finset.sum_apply, Finsupp.finsetSum_apply]
    exact Finset.sum_eq_zero fun c _ => by rw [tallyAt_apply, if_neg (fun e => nomatch e.2)]
  · rfl

/-- A block's worth of rows of the input half, from block `t`. -/
def rowsAt (X : S16384x768.Idx → F .f32) (t : Fin 4) : S4096x768.Idx → F .f32 := fun j =>
  X (ValueIdx.ix2 ⟨4096 * t.val + (j 0).val, by have h : (j 0).val < 4096 := (j 0).isLt; have := t.isLt; omega⟩ (j 1))

/-! ## The first region -/

section One

variable (V : (c : Dev nD) → (b : Ref sig .tc) → Buf (Elt F) ((c : Thread nD τ).loc b)) (n : ℕ)

/-- The three operands' blocks at point `t`, as the fetches stage them. -/
abbrev xb (c : Dev nD) (t : Fin cfg0.N) : S4096x768.Idx → F .f32 := ((cfg0.win 0).blk t).view.read (Elt F) (V c main_v5)
abbrev wb (c : Dev nD) (t : Fin cfg0.N) : S768x16.Idx → F .f32 := ((cfg0.win 1).blk t).view.read (Elt F) (V c main_v2)
abbrev bb (c : Dev nD) (t : Fin cfg0.N) : S1x16.Idx → F .f32 := ((cfg0.win 2).blk t).view.read (Elt F) (V c main_v4)

/-- The waits recorded before the region: none above the calls that are done. -/
abbrev recd (c : Dev nD) : Set (SemLoc sig × HIx 2) := {p | (K (F := F)).lev (T c, p.1) p.2 ≤ 8 * n}

/-- The proof data: the arrays at `V`; the operands' buffers left as fetched, the result's at the projected block; nothing
    enters the invariant but the scoped buffers of the other kernels; the launch's signals still owed throughout. -/
def dat (c : Dev nD) : Dat τ (Elt F) (HIx 2) ℕ UU ℕ cfg0 c where
  A w := V c (Pipeline.arrRef spec0 w)
  after w t := match w with
    | ⟨0, _⟩ => xb V c t
    | ⟨1, _⟩ => wb V c t
    | ⟨2, _⟩ => bb V c t
    | ⟨3, _⟩ => k0_pay1 (xb V c t) (wb V c t) (bb V c t)
  Φ _ := Pipeline.scopedRest spec0 c
  q _ := fullShare
  owed _ := (K (F := F)).Otc c n
  recorded _ := recd (F := F) n c

/-- Proof data of a pipeline that this region does not run. -/
def junkDat {cfg : Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

/-- No pipeline has a prefetched table. -/
abbrev adm (p : Fin 2) : (pcfgs (F := F) p).Adm := (cfgs p).toPCfg_adm

def pdats : (p : Fin 2) → (c : Dev nD) → Dat τ (Elt F) (HIx 2) ℕ UU ℕ (Pipeline.pin (pcfgs (F := F)) adm p) c
  | ⟨0, _⟩ => fun c => dat V n c
  | ⟨1, _⟩ => fun c => junkDat c

theorem before0 (c : Dev nD) (t : Fin cfg0.N) (d : S4096x768.Idx → F .f32) : (dat V n c).before 0 t d = xb V c t :=
  (Dat.before_in_eq_fetched (dat V n c) 0 rfl (fun _ => rfl) (fun _ _ _ => rfl) (fun _ => rfl) t d).trans rfl
theorem before1 (c : Dev nD) (t : Fin cfg0.N) (d : S768x16.Idx → F .f32) : (dat V n c).before 1 t d = wb V c t :=
  (Dat.before_in_eq_fetched (dat V n c) 1 rfl (fun _ => rfl) (fun _ _ _ => rfl) (fun _ => rfl) t d).trans rfl
theorem before2 (c : Dev nD) (t : Fin cfg0.N) (d : S1x16.Idx → F .f32) : (dat V n c).before 2 t d = bb V c t :=
  (Dat.before_in_eq_fetched (dat V n c) 2 rfl (fun _ => rfl) (fun _ _ _ => rfl) (fun _ => rfl) t d).trans rfl

theorem body_obligation (c : Dev nD) : BodyObligation (dat V n c) (defs₀ (F := F)) 𝒱₀ none Set.univ := fun t => by
  rw [bigSep_W0, bigSep_W0]
  rw [show (dat V n c).Φ t.succ = (dat V n c).Φ t.castSucc from rfl,
    show (dat V n c).owesAt none t.succ = (dat V n c).owesAt none t.castSucc from rfl]
  iintro ⟨HΦ, Howes, ⟨%d0, H0⟩, ⟨%d1, H1⟩, ⟨%d2, H2⟩, ⟨%d3, H3⟩⟩
  rw [before0, before1, before2]
  iapply (proj_body c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) (xb V c t) (wb V c t) (bb V c t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ### The result's array -/

/-- The projected rows, block by block, transposed: entry `(e, r)` is in block `r / 4096`. -/
def proj0 (X : S16384x768.Idx → F .f32) (W : S768x16.Idx → F .f32) (b : S1x16.Idx → F .f32) : S16x16384.Idx → F .f32 := fun i =>
  k0_pay1 (rowsAt X ⟨(i 1).val / 4096, by have h : (i 1).val < 16384 := (i 1).isLt; omega⟩) W b
    (ValueIdx.ix2 (i 0) ⟨(i 1).val % 4096, Nat.mod_lt _ (by decide)⟩)

/-- Where the blocks of the rows and of the result begin. -/
theorem index0 (t : Fin cfg0.N) : (cfg0.win 0).index t 0 = t.val ∧ (cfg0.win 0).index t 1 = 0 := by
  revert t; decide +kernel
theorem index3 (t : Fin cfg0.N) : (cfg0.win 3).index t 0 = 0 ∧ (cfg0.win 3).index t 1 = t.val := by
  revert t; decide +kernel

theorem xb_eq (c : Dev nD) (t : Fin cfg0.N) : xb V c t = rowsAt (V c main_v5) (t.cast N_0) := by
  funext j
  refine congrArg (V c main_v5) (funext fun a => Fin.ext ?_)
  match a with
  | ⟨0, _⟩ => show (cfg0.win 0).index t 0 * 4096 + 1 * (j 0).val = 4096 * t.val + (j 0).val; rw [(index0 t).1]; omega
  | ⟨1, _⟩ => show (cfg0.win 0).index t 1 * 768 + 1 * (j 1).val = (j 1).val; rw [(index0 t).2]; omega
theorem wb_eq (c : Dev nD) (t : Fin cfg0.N) : wb V c t = V c main_v2 := by
  funext j
  refine congrArg (V c main_v2) (funext fun a => Fin.ext ?_)
  match a with
  | ⟨0, _⟩ => show 0 * 768 + 1 * (j 0).val = (j 0).val; omega
  | ⟨1, _⟩ => show 0 * 16 + 1 * (j 1).val = (j 1).val; omega
theorem bb_eq (c : Dev nD) (t : Fin cfg0.N) : bb V c t = V c main_v4 := by
  funext j
  refine congrArg (V c main_v4) (funext fun a => Fin.ext ?_)
  match a with
  | ⟨0, _⟩ => show 0 * 1 + 1 * (j 0).val = (j 0).val; omega
  | ⟨1, _⟩ => show 0 * 16 + 1 * (j 1).val = (j 1).val; omega

theorem arr3 (c : Dev nD) : (dat V n c).arrAt 3 cfg0.N = proj0 (V c main_v5) (V c main_v2) (V c main_v4) := by
  refine (dat V n c).arrAt_eq_of_covers 3 _ (by decide +kernel) fun t hf y => ?_
  blk_simp
  show k0_pay1 (xb V c t) (wb V c t) (bb V c t) y = _
  rw [xb_eq, wb_eq, bb_eq]
  have ht : t.val < 4 := t.isLt.trans_eq N_0
  have hy0 : (y 0).val < 16 := (y 0).isLt
  have hy1 : (y 1).val < 4096 := (y 1).isLt
  have e0 : (((cfg0.win 3).blk t).view.emb y 0).val = (y 0).val := by
    show (cfg0.win 3).index t 0 * 16 + 1 * (y 0).val = _; rw [(index3 t).1]; omega
  have e1 : (((cfg0.win 3).blk t).view.emb y 1).val = 4096 * t.val + (y 1).val := by
    show (cfg0.win 3).index t 1 * 4096 + 1 * (y 1).val = _; rw [(index3 t).2]; omega
  unfold proj0
  refine congr (congrArg (fun r => k0_pay1 (rowsAt (V c main_v5) r) (V c main_v2) (V c main_v4)) (Fin.ext ?_)) (funext fun a => Fin.ext ?_)
  · show t.val = (((cfg0.win 3).blk t).view.emb y 1).val / 4096
    rw [e1]; omega
  · match a with
    | ⟨0, _⟩ => exact e0.symm
    | ⟨1, _⟩ => show (y 1).val = (((cfg0.win 3).blk t).view.emb y 1).val % 4096; rw [e1]; omega

variable (Vp : (c : Dev nD) → (b : Ref sig .tc) → Buf (Elt F) ((c : Thread nD τ).loc b))

set_option backward.isDefEq.respectTransparency.types false in
/-- The region from "every unscoped buffer at `V`, the signals of the calls from `n` on owed" to the same at `Vp`, which has the
    result's array projected and is `V` elsewhere. -/
def reg (hVp_out : ∀ c, Vp c main_v6 = proj0 (V c main_v5) (V c main_v2) (V c main_v4)) (hVp_ne : ∀ c (b : Ref sig .tc), b ≠ main_v6 → Vp c b = V c b) :
    Pipeline.RegionSeg (pcfgs (F := F)) adm (pdats V n) none defs₀ 𝒱₀ (K (F := F)).L (K (F := F)).lev 0 where
  win := launch0.toP.win.to₀
  block_pos := (launch0.toP (Val := Elt F)).block_pos
  stage_whole := (launch0.toP (Val := Elt F)).stage_whole
  K := PEmpty
  osem k := k.elim
  ho := Pipeline.OwnSemFacts.none _
  hbody c := (body_obligation V n c).loose
  hwaits c := Pipeline.cellsWaits_intro _ _ _ _ _ fun w s t => (K (F := F)).mayWait_none _ fun g => Otc_none c n g
  pre c := iprop(unscopedBufs c (V c) ∗ ∃ W, ⌜(K (F := F)).WBelow (T c) W (8 * n)⌝ ∗ owes (T c) ((K (F := F)).Otc c n) W)
  post c := iprop(unscopedBufs c (Vp c) ∗ ∃ W, ⌜(K (F := F)).WBelow (T c) W (8 * n)⌝ ∗ owes (T c) ((K (F := F)).Otc c n) W)
  X _ := BI.emp
  Y _ := BI.emp
  Z c := Pipeline.unscopedRest (Ix := HIx 2) (Name := ℕ) (U := UU) (Lvl := ℕ) spec0 c (V c)
  hentry c := by
    rw [Pipeline.ownSems0_none]
    have hsplit := Pipeline.arrays_of_unscopedBufs (p := 0) (pcfgs (F := F)) adm (pdats V n) (launch0.toP (Val := Elt F)).win (launch0.toP (Val := Elt F)).arr_whole c
      ((pdats V n 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V n 0 c).Φ 0 = Pipeline.scopedRest spec0 c from rfl]
    iintro ⟨-, -, Hr⟩; iexact Hr
  hout c := by
    rw [Pipeline.ownSems0_none, show (pdats V n 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) (launch0.toP (Val := Elt F)).win (launch0.toP (Val := Elt F)).arr_whole c
      (pdats V n) ((pdats V n 0 c).share_full fun _ => rfl) (V c) (Vp c) ((pdats V n 0 c).arrAt · cfg0.N)
      (fun w => by
        fin_cases w
        · exact ((pdats V n 0 c).arrAt_in 0 rfl _).trans (hVp_ne c main_v5 (by decide)).symm
        · exact ((pdats V n 0 c).arrAt_in 1 rfl _).trans (hVp_ne c main_v2 (by decide)).symm
        · exact ((pdats V n 0 c).arrAt_in 2 rfl _).trans (hVp_ne c main_v4 (by decide)).symm
        · exact (arr3 V n c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | ⟨w, s, rfl⟩
      · exact h
      · exact Nat.zero_le _
    iexact HO

theorem reg_pre (h1 : ∀ c, Vp c main_v6 = proj0 (V c main_v5) (V c main_v2) (V c main_v4)) (h2 : ∀ c (b : Ref sig .tc), b ≠ main_v6 → Vp c b = V c b) (c : Dev nD) :
    (reg V n Vp h1 h2).pre c = iprop(unscopedBufs c (V c) ∗ ∃ W, ⌜(K (F := F)).WBelow (T c) W (8 * n)⌝ ∗ owes (T c) ((K (F := F)).Otc c n) W) := rfl
theorem reg_post (h1 : ∀ c, Vp c main_v6 = proj0 (V c main_v5) (V c main_v2) (V c main_v4)) (h2 : ∀ c (b : Ref sig .tc), b ≠ main_v6 → Vp c b = V c b) (c : Dev nD) :
    (reg V n Vp h1 h2).post c = iprop(unscopedBufs c (Vp c) ∗ ∃ W, ⌜(K (F := F)).WBelow (T c) W (8 * n)⌝ ∗ owes (T c) ((K (F := F)).Otc c n) W) := rfl

end One

end Cert.Proof

end
-- ==== Proof.Proj2.lean ====
/-
  The second TensorCore region, on the second half of the rows: its body is the first region's, its arrays are its own.
-/
module

public import proofs.«01_k».proof.Proof.Proj
public import Idealize.ShloMosaic.Lib.Pipeline.RegionsLoop
public import Idealize.ShloMosaic.Lib.Pipeline.FrameBody
public import Idealize.ShloMosaic.Lib.Pipeline.ValueKit
public import Idealize.ShloMosaic.Lib.VecWindow
public import Idealize.ShloMosaic.Lib.Writes

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 2) (Elt F) ℕ UU ℕ

/-! ## The second region -/

/-- The second region's body is the first's. -/
theorem proj_body' (d : Dev nD) (i : grid2.Coords) (M0 : Memref sig .tc .vmem S4096x768 .f32) (h0 : M0.IsWhole) (M1 : Memref sig .tc .vmem S768x16 .f32) (h1 : M1.IsWhole)
    (M2 : Memref sig .tc .vmem S1x16 .f32) (h2 : M2.IsWhole) (M3 : Memref sig .tc .vmem S16x4096 .f32) (h3 : M3.IsWhole)
    (X : S4096x768.Idx → F .f32) (W : S768x16.Idx → F .f32) (b : S1x16.Idx → F .f32) (Z : S16x4096.Idx → F .f32) (Q : PUnit → sProp 𝕄) :
    iprop(owns (T d) M0 fullShare X ∗ owns (T d) M1 fullShare W ∗ owns (T d) M2 fullShare b ∗ owns (T d) M3 fullShare Z
        ∗ ((owns (T d) M0 fullShare X ∗ owns (T d) M1 fullShare W ∗ owns (T d) M2 fullShare b ∗ owns (T d) M3 fullShare (k0_pay1 X W b)) -∗ Q ⟨⟩))
      ⊢ wp frame (wpE (defs₀ (F := F)) 𝒱₀ (T d) none) Set.univ (cc2__proj_body (F := F) i M0 h0 M1 h1 M2 h2 M3 h3) Q :=
  proj_body d i M0 h0 M1 h1 M2 h2 M3 h3 X W b Z Q

section Two

variable (V : (c : Dev nD) → (b : Ref sig .tc) → Buf (Elt F) ((c : Thread nD τ).loc b)) (n : ℕ)

/-- The three operands' blocks at point `t`, as the fetches stage them. -/
abbrev xb' (c : Dev nD) (t : Fin cfg2.N) : S4096x768.Idx → F .f32 := ((cfg2.win 0).blk t).view.read (Elt F) (V c main_v8)
abbrev wb' (c : Dev nD) (t : Fin cfg2.N) : S768x16.Idx → F .f32 := ((cfg2.win 1).blk t).view.read (Elt F) (V c main_v2)
abbrev bb' (c : Dev nD) (t : Fin cfg2.N) : S1x16.Idx → F .f32 := ((cfg2.win 2).blk t).view.read (Elt F) (V c main_v4)

/-- The proof data: the arrays at `V`; the operands' buffers left as fetched, the result's at the projected block; nothing
    enters the invariant but the scoped buffers of the other kernels; the launch's signals still owed throughout. -/
def dat' (c : Dev nD) : Dat τ (Elt F) (HIx 2) ℕ UU ℕ cfg2 c where
  A w := V c (Pipeline.arrRef spec2 w)
  after w t := match w with
    | ⟨0, _⟩ => xb' V c t
    | ⟨1, _⟩ => wb' V c t
    | ⟨2, _⟩ => bb' V c t
    | ⟨3, _⟩ => k0_pay1 (xb' V c t) (wb' V c t) (bb' V c t)
  Φ _ := Pipeline.scopedRest spec2 c
  q _ := fullShare
  owed _ := (K (F := F)).Otc c n
  recorded _ := recd (F := F) n c

def pdats' : (p : Fin 2) → (c : Dev nD) → Dat τ (Elt F) (HIx 2) ℕ UU ℕ (Pipeline.pin (pcfgs (F := F)) adm p) c
  | ⟨0, _⟩ => fun c => junkDat c
  | ⟨1, _⟩ => fun c => dat' V n c

theorem before0' (c : Dev nD) (t : Fin cfg2.N) (d : S4096x768.Idx → F .f32) : (dat' V n c).before 0 t d = xb' V c t :=
  (Dat.before_in_eq_fetched (dat' V n c) 0 rfl (fun _ => rfl) (fun _ _ _ => rfl) (fun _ => rfl) t d).trans rfl
theorem before1' (c : Dev nD) (t : Fin cfg2.N) (d : S768x16.Idx → F .f32) : (dat' V n c).before 1 t d = wb' V c t :=
  (Dat.before_in_eq_fetched (dat' V n c) 1 rfl (fun _ => rfl) (fun _ _ _ => rfl) (fun _ => rfl) t d).trans rfl
theorem before2' (c : Dev nD) (t : Fin cfg2.N) (d : S1x16.Idx → F .f32) : (dat' V n c).before 2 t d = bb' V c t :=
  (Dat.before_in_eq_fetched (dat' V n c) 2 rfl (fun _ => rfl) (fun _ _ _ => rfl) (fun _ => rfl) t d).trans rfl

theorem body_obligation' (c : Dev nD) : BodyObligation (dat' V n c) (defs₀ (F := F)) 𝒱₀ none Set.univ := fun t => by
  rw [bigSep_W2, bigSep_W2]
  rw [show (dat' V n c).Φ t.succ = (dat' V n c).Φ t.castSucc from rfl,
    show (dat' V n c).owesAt none t.succ = (dat' V n c).owesAt none t.castSucc from rfl]
  iintro ⟨HΦ, Howes, ⟨%d0, H0⟩, ⟨%d1, H1⟩, ⟨%d2, H2⟩, ⟨%d3, H3⟩⟩
  rw [before0', before1', before2']
  iapply (proj_body' c (grid2.coords t) _ (hstage2_0 ((cfg2.slots t 0).cast nbuf2_0)) _ (hstage2_1 ((cfg2.slots t 1).cast nbuf2_1))
    _ (hstage2_2 ((cfg2.slots t 2).cast nbuf2_2)) _ (hstage2_3 ((cfg2.slots t 3).cast nbuf2_3)) (xb' V c t) (wb' V c t) (bb' V c t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ### The result's array -/

/-- Where the blocks of the rows and of the result begin. -/
theorem index0' (t : Fin cfg2.N) : (cfg2.win 0).index t 0 = t.val ∧ (cfg2.win 0).index t 1 = 0 := by
  revert t; decide +kernel
theorem index3' (t : Fin cfg2.N) : (cfg2.win 3).index t 0 = 0 ∧ (cfg2.win 3).index t 1 = t.val := by
  revert t; decide +kernel

theorem xb_eq' (c : Dev nD) (t : Fin cfg2.N) : xb' V c t = rowsAt (V c main_v8) (t.cast N_2) := by
  funext j
  refine congrArg (V c main_v8) (funext fun a => Fin.ext ?_)
  match a with
  | ⟨0, _⟩ => show (cfg2.win 0).index t 0 * 4096 + 1 * (j 0).val = 4096 * t.val + (j 0).val; rw [(index0' t).1]; omega
  | ⟨1, _⟩ => show (cfg2.win 0).index t 1 * 768 + 1 * (j 1).val = (j 1).val; rw [(index0' t).2]; omega
theorem wb_eq' (c : Dev nD) (t : Fin cfg2.N) : wb' V c t = V c main_v2 := by
  funext j
  refine congrArg (V c main_v2) (funext fun a => Fin.ext ?_)
  match a with
  | ⟨0, _⟩ => show 0 * 768 + 1 * (j 0).val = (j 0).val; omega
  | ⟨1, _⟩ => show 0 * 16 + 1 * (j 1).val = (j 1).val; omega
theorem bb_eq' (c : Dev nD) (t : Fin cfg2.N) : bb' V c t = V c main_v4 := by
  funext j
  refine congrArg (V c main_v4) (funext fun a => Fin.ext ?_)
  match a with
  | ⟨0, _⟩ => show 0 * 1 + 1 * (j 0).val = (j 0).val; omega
  | ⟨1, _⟩ => show 0 * 16 + 1 * (j 1).val = (j 1).val; omega

theorem arr3' (c : Dev nD) : (dat' V n c).arrAt 3 cfg2.N = proj0 (V c main_v8) (V c main_v2) (V c main_v4) := by
  refine (dat' V n c).arrAt_eq_of_covers 3 _ (by decide +kernel) fun t hf y => ?_
  blk_simp
  show k0_pay1 (xb' V c t) (wb' V c t) (bb' V c t) y = _
  rw [xb_eq', wb_eq', bb_eq']
  have ht : t.val < 4 := t.isLt.trans_eq N_2
  have hy0 : (y 0).val < 16 := (y 0).isLt
  have hy1 : (y 1).val < 4096 := (y 1).isLt
  have e0 : (((cfg2.win 3).blk t).view.emb y 0).val = (y 0).val := by
    show (cfg2.win 3).index t 0 * 16 + 1 * (y 0).val = _; rw [(index3' t).1]; omega
  have e1 : (((cfg2.win 3).blk t).view.emb y 1).val = 4096 * t.val + (y 1).val := by
    show (cfg2.win 3).index t 1 * 4096 + 1 * (y 1).val = _; rw [(index3' t).2]; omega
  unfold proj0
  refine congr (congrArg (fun r => k0_pay1 (rowsAt (V c main_v8) r) (V c main_v2) (V c main_v4)) (Fin.ext ?_)) (funext fun a => Fin.ext ?_)
  · show t.val = (((cfg2.win 3).blk t).view.emb y 1).val / 4096
    rw [e1]; omega
  · match a with
    | ⟨0, _⟩ => exact e0.symm
    | ⟨1, _⟩ => show (y 1).val = (((cfg2.win 3).blk t).view.emb y 1).val % 4096; rw [e1]; omega

variable (Vp : (c : Dev nD) → (b : Ref sig .tc) → Buf (Elt F) ((c : Thread nD τ).loc b))

set_option backward.isDefEq.respectTransparency.types false in
/-- The region from "every unscoped buffer at `V`, the signals of the calls from `n` on owed" to the same at `Vp`, which has the
    result's array projected and is `V` elsewhere. -/
def reg' (hVp_out : ∀ c, Vp c main_v9 = proj0 (V c main_v8) (V c main_v2) (V c main_v4)) (hVp_ne : ∀ c (b : Ref sig .tc), b ≠ main_v9 → Vp c b = V c b) :
    Pipeline.RegionSeg (pcfgs (F := F)) adm (pdats' V n) none defs₀ 𝒱₀ (K (F := F)).L (K (F := F)).lev 1 where
  win := launch2.toP.win.to₀
  block_pos := (launch2.toP (Val := Elt F)).block_pos
  stage_whole := (launch2.toP (Val := Elt F)).stage_whole
  K := PEmpty
  osem k := k.elim
  ho := Pipeline.OwnSemFacts.none _
  hbody c := (body_obligation' V n c).loose
  hwaits c := Pipeline.cellsWaits_intro _ _ _ _ _ fun w s t => (K (F := F)).mayWait_none _ fun g => Otc_none c n g
  pre c := iprop(unscopedBufs c (V c) ∗ ∃ W, ⌜(K (F := F)).WBelow (T c) W (8 * n)⌝ ∗ owes (T c) ((K (F := F)).Otc c n) W)
  post c := iprop(unscopedBufs c (Vp c) ∗ ∃ W, ⌜(K (F := F)).WBelow (T c) W (8 * n)⌝ ∗ owes (T c) ((K (F := F)).Otc c n) W)
  X _ := BI.emp
  Y _ := BI.emp
  Z c := Pipeline.unscopedRest (Ix := HIx 2) (Name := ℕ) (U := UU) (Lvl := ℕ) spec2 c (V c)
  hentry c := by
    rw [Pipeline.ownSems0_none]
    have hsplit := Pipeline.arrays_of_unscopedBufs (p := 1) (pcfgs (F := F)) adm (pdats' V n) (launch2.toP (Val := Elt F)).win (launch2.toP (Val := Elt F)).arr_whole c
      ((pdats' V n 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats' V n 1 c).Φ 0 = Pipeline.scopedRest spec2 c from rfl]
    iintro ⟨-, -, Hr⟩; iexact Hr
  hout c := by
    rw [Pipeline.ownSems0_none, show (pdats' V n 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 2) (Name := ℕ) (U := UU) (Lvl := ℕ) (launch2.toP (Val := Elt F)).win (launch2.toP (Val := Elt F)).arr_whole c
      (pdats' V n) ((pdats' V n 1 c).share_full fun _ => rfl) (V c) (Vp c) ((pdats' V n 1 c).arrAt · cfg2.N)
      (fun w => by
        fin_cases w
        · exact ((pdats' V n 1 c).arrAt_in 0 rfl _).trans (hVp_ne c main_v8 (by decide)).symm
        · exact ((pdats' V n 1 c).arrAt_in 1 rfl _).trans (hVp_ne c main_v2 (by decide)).symm
        · exact ((pdats' V n 1 c).arrAt_in 2 rfl _).trans (hVp_ne c main_v4 (by decide)).symm
        · exact (arr3' V n c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | ⟨w, s, rfl⟩
      · exact h
      · exact Nat.zero_le _
    iexact HO

theorem reg_pre' (h1 : ∀ c, Vp c main_v9 = proj0 (V c main_v8) (V c main_v2) (V c main_v4)) (h2 : ∀ c (b : Ref sig .tc), b ≠ main_v9 → Vp c b = V c b) (c : Dev nD) :
    (reg' V n Vp h1 h2).pre c = iprop(unscopedBufs c (V c) ∗ ∃ W, ⌜(K (F := F)).WBelow (T c) W (8 * n)⌝ ∗ owes (T c) ((K (F := F)).Otc c n) W) := rfl
theorem reg_post' (h1 : ∀ c, Vp c main_v9 = proj0 (V c main_v8) (V c main_v2) (V c main_v4)) (h2 : ∀ c (b : Ref sig .tc), b ≠ main_v9 → Vp c b = V c b) (c : Dev nD) :
    (reg' V n Vp h1 h2).post c = iprop(unscopedBufs c (Vp c) ∗ ∃ W, ⌜(K (F := F)).WBelow (T c) W (8 * n)⌝ ∗ owes (T c) ((K (F := F)).Otc c n) W) := rfl

end Two

end Cert.Proof

end
-- ==== Proof.Split.lean ====
/-
  How a SparseCore's share is its tasks' shares, and the whole arrays the shares of the thirty-two tasks.
-/
module

public import proofs.«01_k».proof.Proof.Common
public import Idealize.ShloMosaic.Lib.SparseCore.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

/-- Task `p`'s block number. -/
def blk (p : Fin 2 × Fin 16) : ℕ := 2 * p.2.val + p.1.val

theorem mem_col (p : Fin 2 × Fin 16) (y : S16x16384.Idx) : y ∈ colSet (crd p.1 p.2) ↔ (y 1).val / 512 = blk p := by
  have h := k1_off1_eq (crd p.1 p.2)
  have e : k1_off1 (crd p.1 p.2) = ![0, 512 * blk p] := by
    rw [h]; unfold blk crd; congr 2; show 1024 * p.2.val + 512 * p.1.val = _; omega
  have h0 : (y 0).val < 16 := (y 0).isLt
  rw [Rect.mem_set_unit]
  constructor
  · intro ha
    have := ha 1
    rw [e] at this
    change 512 * blk p ≤ (y 1).val ∧ (y 1).val < 512 * blk p + 512 at this
    omega
  · intro hb a
    rw [e]
    fin_cases a
    · show 0 ≤ (y 0).val ∧ (y 0).val < 0 + 16
      omega
    · show 512 * blk p ≤ (y 1).val ∧ (y 1).val < 512 * blk p + 512
      omega

theorem mem_seg (p : Fin 2 × Fin 16) (y : S16384.Idx) : y ∈ segSet (crd p.1 p.2) ↔ (y 0).val / 512 = blk p := by
  have h := k1_off19_eq (crd p.1 p.2)
  have e : k1_off19 (crd p.1 p.2) = ![512 * blk p] := by
    rw [h]; unfold blk crd; congr 1; show 1024 * p.2.val + 512 * p.1.val = _; omega
  rw [Rect.mem_set_unit]
  constructor
  · intro ha
    have := ha 0
    rw [e] at this
    change 512 * blk p ≤ (y 0).val ∧ (y 0).val < 512 * blk p + 512 at this
    omega
  · intro hb a
    rw [e]
    fin_cases a
    show 512 * blk p ≤ (y 0).val ∧ (y 0).val < 512 * blk p + 512
    omega

theorem blk_inj (p p' : Fin 2 × Fin 16) (h : blk p = blk p') : p = p' := by
  obtain ⟨a, b⟩ := p
  obtain ⟨a', b'⟩ := p'
  simp only [blk] at h
  have := a.isLt; have := a'.isLt
  exact Prod.ext (Fin.ext (by show a.val = a'.val; omega)) (Fin.ext (by show b.val = b'.val; omega))

theorem blk_surj (n : ℕ) (h : n < 32) : ∃ p, blk p = n :=
  ⟨(⟨n % 2, by omega⟩, ⟨n / 2, by omega⟩), by show 2 * (n / 2) + n % 2 = n; omega⟩

theorem cols_disjoint : ∀ p ∈ (Finset.univ : Finset (Fin 2 × Fin 16)), ∀ p' ∈ (Finset.univ : Finset (Fin 2 × Fin 16)), p ≠ p' →
    Disjoint (colSet (crd p.1 p.2)) (colSet (crd p'.1 p'.2)) := fun p _ p' _ hne =>
  Finset.disjoint_left.mpr fun y hy hy' => hne (blk_inj p p' (((mem_col p y).mp hy).symm.trans ((mem_col p' y).mp hy')))

theorem segs_disjoint : ∀ p ∈ (Finset.univ : Finset (Fin 2 × Fin 16)), ∀ p' ∈ (Finset.univ : Finset (Fin 2 × Fin 16)), p ≠ p' →
    Disjoint (segSet (crd p.1 p.2)) (segSet (crd p'.1 p'.2)) := fun p _ p' _ hne =>
  Finset.disjoint_left.mpr fun y hy hy' => hne (blk_inj p p' (((mem_seg p y).mp hy).symm.trans ((mem_seg p' y).mp hy')))

theorem cols_cover : (Finset.univ : Finset (Fin 2 × Fin 16)).biUnion (fun p => colSet (crd p.1 p.2)) = Finset.univ := by
  ext y
  have hy : (y 1).val < 16384 := (y 1).isLt
  obtain ⟨p, hp⟩ := blk_surj ((y 1).val / 512) (by omega)
  simp only [Finset.mem_biUnion, Finset.mem_univ, true_and, iff_true]
  exact ⟨p, (mem_col p y).mpr hp.symm⟩

theorem segs_cover : (Finset.univ : Finset (Fin 2 × Fin 16)).biUnion (fun p => segSet (crd p.1 p.2)) = Finset.univ := by
  ext y
  have hy : (y 0).val < 16384 := (y 0).isLt
  obtain ⟨p, hp⟩ := blk_surj ((y 0).val / 512) (by omega)
  simp only [Finset.mem_biUnion, Finset.mem_univ, true_and, iff_true]
  exact ⟨p, (mem_seg p y).mpr hp.symm⟩

/-! ## A whole array as its blocks -/

theorem split_cols (d : Dev nD) (f : Buf (Elt F) (yLoc d)) : (yLoc d ↦{fullShare} f : sProp 𝕄)
    = bigSep Finset.univ fun p : Fin 2 × Fin 16 => yLoc d ↦[colSet (crd p.1 p.2)]{fullShare} f :=
  (congrArg (fun I => (yLoc d ↦[I]{fullShare} f : sProp 𝕄)) cols_cover.symm).trans (pointsTo_biUnion _ _ cols_disjoint)
theorem split_segs (d : Dev nD) (f : Buf (Elt F) (oLoc d)) : (oLoc d ↦{fullShare} f : sProp 𝕄)
    = bigSep Finset.univ fun p : Fin 2 × Fin 16 => oLoc d ↦[segSet (crd p.1 p.2)]{fullShare} f :=
  (congrArg (fun I => (oLoc d ↦[I]{fullShare} f : sProp 𝕄)) segs_cover.symm).trans (pointsTo_biUnion _ _ segs_disjoint)
theorem split_cols2 (d : Dev nD) (f : Buf (Elt F) (yLoc' d)) : (yLoc' d ↦{fullShare} f : sProp 𝕄)
    = bigSep Finset.univ fun p : Fin 2 × Fin 16 => yLoc' d ↦[colSet (crd p.1 p.2)]{fullShare} f :=
  (congrArg (fun I => (yLoc' d ↦[I]{fullShare} f : sProp 𝕄)) cols_cover.symm).trans (pointsTo_biUnion _ _ cols_disjoint)
theorem split_segs2 (d : Dev nD) (f : Buf (Elt F) (oLoc' d)) : (oLoc' d ↦{fullShare} f : sProp 𝕄)
    = bigSep Finset.univ fun p : Fin 2 × Fin 16 => oLoc' d ↦[segSet (crd p.1 p.2)]{fullShare} f :=
  (congrArg (fun I => (oLoc' d ↦[I]{fullShare} f : sProp 𝕄)) segs_cover.symm).trans (pointsTo_biUnion _ _ segs_disjoint)

variable (YA : (d : Dev nD) → Buf (Elt F) (yLoc d)) (YB : (d : Dev nD) → Buf (Elt F) (yLoc' d))

/-- The first call is handed the two arrays whole, -/
theorem st_of_whole (d : Dev nD) :
    (iprop((yLoc d ↦{fullShare} YA d) ∗ ∃ f : Buf (Elt F) (oLoc d), oLoc d ↦{fullShare} f) : sProp 𝕄)
      ⊢ bigSep Finset.univ fun c => (P YA YB).st 0 d c := by
  show _ ⊢ bigSep Finset.univ fun c : Fin 2 => bigSep Finset.univ fun i : Fin 16 => goA YA d (crd c i)
  rw [← BI.bigSep_univ_prod (fun p : Fin 2 × Fin 16 => goA YA d (crd p.1 p.2))]
  refine BI.Entails.trans ?_ (Entails.of_eq (BI.bigSep_sep _ (fun p : Fin 2 × Fin 16 => (yLoc d ↦[colSet (crd p.1 p.2)]{fullShare} YA d : sProp 𝕄)) (fun p => iprop(∃ f : Buf (Elt F) (oLoc d), oLoc d ↦[segSet (crd p.1 p.2)]{fullShare} f))).symm)
  refine BI.sep_mono (Entails.of_eq (split_cols d _)) ?_
  show (iprop(∃ f : Buf (Elt F) (oLoc d), oLoc d ↦{fullShare} f) : sProp 𝕄) ⊢ (bigSep Finset.univ fun p : Fin 2 × Fin 16 => iprop(∃ f : Buf (Elt F) (oLoc d), oLoc d ↦[segSet (crd p.1 p.2)]{fullShare} f) : sProp 𝕄)
  iintro ⟨%f, H⟩
  ihave H' := (show (oLoc d ↦{fullShare} f : sProp 𝕄)
      ⊢ bigSep Finset.univ fun p : Fin 2 × Fin 16 => iprop(∃ f : Buf (Elt F) (oLoc d), oLoc d ↦[segSet (crd p.1 p.2)]{fullShare} f) from
    (Entails.of_eq (split_segs d f)).trans (BI.bigSep_mono fun p _ => (show (oLoc d ↦[segSet (crd p.1 p.2)]{fullShare} f : sProp 𝕄)
      ⊢ iprop(∃ f : Buf (Elt F) (oLoc d), oLoc d ↦[segSet (crd p.1 p.2)]{fullShare} f) by iintro H; iexists f; iexact H))) $$ H
  iexact H'
/-- and brings them back, the result routed. -/
theorem whole_of_dn (d : Dev nD) :
    (bigSep Finset.univ fun c => (P YA YB).dn 0 d c : sProp 𝕄)
      ⊢ iprop((yLoc d ↦{fullShare} YA d) ∗ oLoc d ↦{fullShare} (routeOut (F := F) (YA d) : Buf (Elt F) (oLoc d))) := by
  show (bigSep Finset.univ fun c : Fin 2 => bigSep Finset.univ fun i : Fin 16 => tdA YA d (crd c i)) ⊢ _
  rw [← BI.bigSep_univ_prod (fun p : Fin 2 × Fin 16 => tdA YA d (crd p.1 p.2))]
  refine BI.Entails.trans (Entails.of_eq (BI.bigSep_sep _ (fun p : Fin 2 × Fin 16 => (yLoc d ↦[colSet (crd p.1 p.2)]{fullShare} YA d : sProp 𝕄)) (fun p => (oLoc d ↦[segSet (crd p.1 p.2)]{fullShare} (routeOut (F := F) (YA d) : Buf (Elt F) (oLoc d)) : sProp 𝕄)))) ?_
  exact BI.sep_mono (Entails.of_eq (split_cols d _).symm) (Entails.of_eq (split_segs d _).symm)

theorem vecSplit0 : (K (F := F)).VecSplit' (P YA YB) 0 := by
  intro d c
  show (bigSep Finset.univ fun i : Fin 16 => goA YA d (crd c i)) ⊢ |={Set.univ}=> iprop((bigSep Finset.univ fun i : Fin 16 => goA YA d (crd c i))
    ∗ ((bigSep Finset.univ fun i : Fin 16 => tdA YA d (crd c i)) -∗ (bigSep Finset.univ fun i : Fin 16 => tdA YA d (crd c i))))
  iintro H
  imodintro
  isplitl [H]
  · iexact H
  · iintro H; iexact H

/-! The same of the second call. -/

/-- The second call is handed the two arrays whole, -/
theorem st_of_whole2 (d : Dev nD) :
    (iprop((yLoc' d ↦{fullShare} YB d) ∗ ∃ f : Buf (Elt F) (oLoc' d), oLoc' d ↦{fullShare} f) : sProp 𝕄)
      ⊢ bigSep Finset.univ fun c => (P YA YB).st 1 d c := by
  show _ ⊢ bigSep Finset.univ fun c : Fin 2 => bigSep Finset.univ fun i : Fin 16 => goB YB d (crd c i)
  rw [← BI.bigSep_univ_prod (fun p : Fin 2 × Fin 16 => goB YB d (crd p.1 p.2))]
  refine BI.Entails.trans ?_ (Entails.of_eq (BI.bigSep_sep _ (fun p : Fin 2 × Fin 16 => (yLoc' d ↦[colSet (crd p.1 p.2)]{fullShare} YB d : sProp 𝕄)) (fun p => iprop(∃ f : Buf (Elt F) (oLoc' d), oLoc' d ↦[segSet (crd p.1 p.2)]{fullShare} f))).symm)
  refine BI.sep_mono (Entails.of_eq (split_cols2 d _)) ?_
  show (iprop(∃ f : Buf (Elt F) (oLoc' d), oLoc' d ↦{fullShare} f) : sProp 𝕄) ⊢ (bigSep Finset.univ fun p : Fin 2 × Fin 16 => iprop(∃ f : Buf (Elt F) (oLoc' d), oLoc' d ↦[segSet (crd p.1 p.2)]{fullShare} f) : sProp 𝕄)
  iintro ⟨%f, H⟩
  ihave H' := (show (oLoc' d ↦{fullShare} f : sProp 𝕄)
      ⊢ bigSep Finset.univ fun p : Fin 2 × Fin 16 => iprop(∃ f : Buf (Elt F) (oLoc' d), oLoc' d ↦[segSet (crd p.1 p.2)]{fullShare} f) from
    (Entails.of_eq (split_segs2 d f)).trans (BI.bigSep_mono fun p _ => (show (oLoc' d ↦[segSet (crd p.1 p.2)]{fullShare} f : sProp 𝕄)
      ⊢ iprop(∃ f : Buf (Elt F) (oLoc' d), oLoc' d ↦[segSet (crd p.1 p.2)]{fullShare} f) by iintro H; iexists f; iexact H))) $$ H
  iexact H'
/-- and brings them back, the result routed. -/
theorem whole_of_dn2 (d : Dev nD) :
    (bigSep Finset.univ fun c => (P YA YB).dn 1 d c : sProp 𝕄)
      ⊢ iprop((yLoc' d ↦{fullShare} YB d) ∗ oLoc' d ↦{fullShare} (routeOut (F := F) (YB d) : Buf (Elt F) (oLoc' d))) := by
  show (bigSep Finset.univ fun c : Fin 2 => bigSep Finset.univ fun i : Fin 16 => tdB YB d (crd c i)) ⊢ _
  rw [← BI.bigSep_univ_prod (fun p : Fin 2 × Fin 16 => tdB YB d (crd p.1 p.2))]
  refine BI.Entails.trans (Entails.of_eq (BI.bigSep_sep _ (fun p : Fin 2 × Fin 16 => (yLoc' d ↦[colSet (crd p.1 p.2)]{fullShare} YB d : sProp 𝕄)) (fun p => (oLoc' d ↦[segSet (crd p.1 p.2)]{fullShare} (routeOut (F := F) (YB d) : Buf (Elt F) (oLoc' d)) : sProp 𝕄)))) ?_
  exact BI.sep_mono (Entails.of_eq (split_cols2 d _).symm) (Entails.of_eq (split_segs2 d _).symm)

theorem vecSplit1 : (K (F := F)).VecSplit' (P YA YB) 1 := by
  intro d c
  show (bigSep Finset.univ fun i : Fin 16 => goB YB d (crd c i)) ⊢ |={Set.univ}=> iprop((bigSep Finset.univ fun i : Fin 16 => goB YB d (crd c i))
    ∗ ((bigSep Finset.univ fun i : Fin 16 => tdB YB d (crd c i)) -∗ (bigSep Finset.univ fun i : Fin 16 => tdB YB d (crd c i))))
  iintro H
  imodintro
  isplitl [H]
  · iexact H
  · iintro H; iexact H

end Cert.Proof

end
-- ==== Proof.Trip.lean ====
/-
  One trip of the SparseCore task's loop: sixteen lanes of the staged columns are loaded, routed and stored.
-/
module

public import proofs.«01_k».proof.Proof.Common
public import Idealize.ShloMosaic.Lib.Writes
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F] [Named F]

local notation "𝕄" => MT nD τ sig (HIx 2) (Elt F) ℕ UU ℕ

abbrev yM : Memref sig .scVector .hbm S16x16384 .f32 := Memref.whole main_v6_scv
abbrev oM : Memref sig .scVector .hbm S16384 .f32 := Memref.whole main_v7_scv
abbrev bM : Memref sig .scVector .vmem S16x512 .f32 := Memref.whole cc1_scratch0
abbrev rM : Memref sig .scVector .vmem S512 .f32 := Memref.whole cc1_scratch1
abbrev yM' : Memref sig .scVector .hbm S16x16384 .f32 := Memref.whole main_v9_scv
abbrev oM' : Memref sig .scVector .hbm S16384 .f32 := Memref.whole main_v10_scv
abbrev bM' : Memref sig .scVector .vmem S16x512 .f32 := Memref.whole cc3_scratch0
abbrev rM' : Memref sig .scVector .vmem S512 .f32 := Memref.whole cc3_scratch1

variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- Lane `x` of trip `k`, as a column of the staged block. -/
def col (k : Fin k1_t1_loop.trips) (x : S16.Idx) : Fin 512 :=
  ⟨16 * k.val + (x 0).val, by have h : k.val < 32 := k.isLt; have h' : (x 0).val < 16 := (x 0).isLt; omega⟩

/-- Sixteen lanes loaded from row `e` at column `16 k`, as a vector of sixteen: lane `x` is the block's number at row `e`, column `16 k + x`. -/
theorem load_row (e : Fin 16) (k : Fin k1_t1_loop.trips) (off : Fin 2 → ℕ) (h : off = ![e.val, 16 * k.val])
    (inb : ∀ a, off a + S1x16.size a ≤ S16x512.size a) (y : S16x512.Idx → F .f32) (x : S16.Idx) :
    shapeCast S16 (View.readAt (Elt F) (bM).view (Rect.unit (s := S16x512) off S1x16.size inb).toLoadRect y) shapeCasts_S1x16_S16 x
      = y (ix2 e (col k x)) := by
  subst h
  refine congrArg y ?_
  have e1 : (Shape.reshapeEquiv shapeCasts_S1x16_S16 x : S1x16.Idx) = Fin.cons ⟨0, Nat.one_pos⟩ x :=
    Shape.reshapeEquiv_cons_one (n := 1) (d := ![16]) _ x
  rw [e1]
  funext a
  apply Fin.ext
  fin_cases a
  · show e.val + 1 * 0 = e.val
    omega
  · show 16 * k.val + 1 * (x 0).val = 16 * k.val + (x 0).val
    omega

set_option maxHeartbeats 4000000 in
/-- One trip of the loop: it leaves the staged block as it was and stores sixteen routed columns. -/
theorem trip (k : Fin k1_t1_loop.trips) (y : Buf (Elt F) ((thr d L).loc cc1_scratch0)) (f : Buf (Elt F) ((thr d L).loc cc1_scratch1)) :
    iprop(((bM).view.loc (thr d L) ↦{fullShare} y : sProp 𝕄) ∗ ((rM).view.loc (thr d L) ↦{fullShare} f))
      ⊢ wp frame (wpE (defs₀ (F := F)) 𝒱₀ (thr d L) none) Set.univ
          (k1_t1_body L yM (Memref.isWhole_whole _) oM (Memref.isWhole_whole _) bM (Memref.isWhole_whole _) rM (Memref.isWhole_whole _) cc1_scoped0 cc1_scoped1 k ())
          fun _ => iprop(((bM).view.loc (thr d L) ↦{fullShare} y)
            ∗ ∃ w : FVec F S16 .f32, ⌜∀ x, w x = lane fun e => (y : S16x512.Idx → F .f32) (ix2 e (col k x))⌝
              ∗ ((rM).view.loc (thr d L) ↦{fullShare}
                  (rM).view.writes (Elt F) f [⟨Rect.unit (s := S512) (k1_off18 k) S16.size (k1_off18_inb k), w⟩])) := by
  iintro ⟨Hy, Hf⟩
  sl_unfold [k1_t1_body]
  sl_exec
  sl_step
  isplitl [Hy]; · iexact Hy
  iexists _
  isplitr
  swap; · iexact Hf
  ipureintro
  intro x
  simp only [k1_pay1, shapeCast_self]
  refine Eq.trans (b := lane (![trip.sl.v8 d L k y x, trip.sl.v12 d L k y x, trip.sl.v16 d L k y x, trip.sl.v20 d L k y x, trip.sl.v24 d L k y x, trip.sl.v28 d L k y x, trip.sl.v32 d L k y x, trip.sl.v36 d L k y x, trip.sl.v40 d L k y x, trip.sl.v44 d L k y x, trip.sl.v48 d L k y x, trip.sl.v52 d L k y x, trip.sl.v56 d L k y x, trip.sl.v60 d L k y x, trip.sl.v64 d L k y x, trip.sl.v68 d L k y x] : Fin 16 → F .f32)) (by rfl) ?_
  congr 1
  funext e
  fin_cases e
  · exact load_row 0 k _ (k1_off2_eq k) _ y x
  · exact load_row 1 k _ (k1_off3_eq k) _ y x
  · exact load_row 2 k _ (k1_off4_eq k) _ y x
  · exact load_row 3 k _ (k1_off5_eq k) _ y x
  · exact load_row 4 k _ (k1_off6_eq k) _ y x
  · exact load_row 5 k _ (k1_off7_eq k) _ y x
  · exact load_row 6 k _ (k1_off8_eq k) _ y x
  · exact load_row 7 k _ (k1_off9_eq k) _ y x
  · exact load_row 8 k _ (k1_off10_eq k) _ y x
  · exact load_row 9 k _ (k1_off11_eq k) _ y x
  · exact load_row 10 k _ (k1_off12_eq k) _ y x
  · exact load_row 11 k _ (k1_off13_eq k) _ y x
  · exact load_row 12 k _ (k1_off14_eq k) _ y x
  · exact load_row 13 k _ (k1_off15_eq k) _ y x
  · exact load_row 14 k _ (k1_off16_eq k) _ y x
  · exact load_row 15 k _ (k1_off17_eq k) _ y x

/-- The same of the second call's staged block. -/
theorem load_row2 (e : Fin 16) (k : Fin k1_t1_loop.trips) (off : Fin 2 → ℕ) (h : off = ![e.val, 16 * k.val])
    (inb : ∀ a, off a + S1x16.size a ≤ S16x512.size a) (y : S16x512.Idx → F .f32) (x : S16.Idx) :
    shapeCast S16 (View.readAt (Elt F) (bM').view (Rect.unit (s := S16x512) off S1x16.size inb).toLoadRect y) shapeCasts_S1x16_S16 x
      = y (ix2 e (col k x)) :=
  load_row e k off h inb y x

set_option maxHeartbeats 4000000 in
/-- The trip on the second call's scratches. -/
theorem trip2 (k : Fin k1_t1_loop.trips) (y : Buf (Elt F) ((thr d L).loc cc3_scratch0)) (f : Buf (Elt F) ((thr d L).loc cc3_scratch1)) :
    iprop(((bM').view.loc (thr d L) ↦{fullShare} y : sProp 𝕄) ∗ ((rM').view.loc (thr d L) ↦{fullShare} f))
      ⊢ wp frame (wpE (defs₀ (F := F)) 𝒱₀ (thr d L) none) Set.univ
          (k1_t1_body L yM' (Memref.isWhole_whole _) oM' (Memref.isWhole_whole _) bM' (Memref.isWhole_whole _) rM' (Memref.isWhole_whole _) cc3_scoped0 cc3_scoped1 k ())
          fun _ => iprop(((bM').view.loc (thr d L) ↦{fullShare} y)
            ∗ ∃ w : FVec F S16 .f32, ⌜∀ x, w x = lane fun e => (y : S16x512.Idx → F .f32) (ix2 e (col k x))⌝
              ∗ ((rM').view.loc (thr d L) ↦{fullShare}
                  (rM').view.writes (Elt F) f [⟨Rect.unit (s := S512) (k1_off18 k) S16.size (k1_off18_inb k), w⟩])) := by
  iintro ⟨Hy, Hf⟩
  sl_unfold [k1_t1_body]
  sl_exec
  sl_step
  isplitl [Hy]; · iexact Hy
  iexists _
  isplitr
  swap; · iexact Hf
  ipureintro
  intro x
  simp only [k1_pay1, shapeCast_self]
  refine Eq.trans (b := lane (![trip2.sl.v8 d L k y x, trip2.sl.v12 d L k y x, trip2.sl.v16 d L k y x, trip2.sl.v20 d L k y x, trip2.sl.v24 d L k y x, trip2.sl.v28 d L k y x, trip2.sl.v32 d L k y x, trip2.sl.v36 d L k y x, trip2.sl.v40 d L k y x, trip2.sl.v44 d L k y x, trip2.sl.v48 d L k y x, trip2.sl.v52 d L k y x, trip2.sl.v56 d L k y x, trip2.sl.v60 d L k y x, trip2.sl.v64 d L k y x, trip2.sl.v68 d L k y x] : Fin 16 → F .f32)) (by rfl) ?_
  congr 1
  funext e
  fin_cases e
  · exact load_row2 0 k _ (k1_off2_eq k) _ y x
  · exact load_row2 1 k _ (k1_off3_eq k) _ y x
  · exact load_row2 2 k _ (k1_off4_eq k) _ y x
  · exact load_row2 3 k _ (k1_off5_eq k) _ y x
  · exact load_row2 4 k _ (k1_off6_eq k) _ y x
  · exact load_row2 5 k _ (k1_off7_eq k) _ y x
  · exact load_row2 6 k _ (k1_off8_eq k) _ y x
  · exact load_row2 7 k _ (k1_off9_eq k) _ y x
  · exact load_row2 8 k _ (k1_off10_eq k) _ y x
  · exact load_row2 9 k _ (k1_off11_eq k) _ y x
  · exact load_row2 10 k _ (k1_off12_eq k) _ y x
  · exact load_row2 11 k _ (k1_off13_eq k) _ y x
  · exact load_row2 12 k _ (k1_off14_eq k) _ y x
  · exact load_row2 13 k _ (k1_off15_eq k) _ y x
  · exact load_row2 14 k _ (k1_off16_eq k) _ y x
  · exact load_row2 15 k _ (k1_off17_eq k) _ y x
end Cert.Proof

end
-- ==== Proof.Tile.lean ====
/-
  One SparseCore task: it copies its 512 columns of the logits into its own memory, routes them sixteen at a time, and copies
  the 512 results out.
-/
module

public import proofs.«01_k».proof.Proof.Trip
public import Idealize.ShloMosaic.Lib.WritesUnit

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F] [Named F]

local notation "𝕄" => MT nD τ sig (HIx 2) (Elt F) ℕ UU ℕ

variable (d : Dev nD) (L : grid1.Coords)

/-- The two scoped cells a task names. -/
abbrev inCell (d : Dev nD) (L : grid1.Coords) : GSem nD τ sig := (thr d L, .dma cc1_scoped0.sem)
abbrev outCell (d : Dev nD) (L : grid1.Coords) : GSem nD τ sig := (thr d L, .dma cc1_scoped1.sem)

theorem ownSems0_thr :
    (ownSems0 (thr d L) : sProp 𝕄)
      = iprop(semVal (inCell d L) 0 ∗ semVal (outCell d L) 0
          ∗ bigSep (((ownCells (thr d L)).erase (inCell d L)).erase (outCell d L)) fun g => semVal g 0) := by
  unfold SparseCore.Cfg.ownSems0
  rw [SparseCore.bigSep_erase' ((mem_ownCells (g := inCell d L)).mpr ⟨rfl, by
      show (SemLoc.dma cc1_scoped0.sem : SemLoc sig).isScoped .scVector = true; decide⟩),
    SparseCore.bigSep_erase' (Finset.mem_erase.mpr ⟨by simp [inCell, outCell]; decide, (mem_ownCells (g := outCell d L)).mpr ⟨rfl, by
      show (SemLoc.dma cc1_scoped1.sem : SemLoc sig).isScoped .scVector = true; decide⟩⟩)]

theorem ownBufs_thr :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The first `16 t` results are the routed columns of `y`. -/
def Done (y : S16x512.Idx → F .f32) (t : ℕ) (g : S512.Idx → F .f32) : Prop :=
  ∀ i : S512.Idx, (i 0).val < 16 * t → g i = lane fun e => y (ix2 e (i 0))

/-- The loop's invariant before trip `t`: the staged columns at `y`, and the results of the first `16 t` of them in place. -/
def inv (y : S16x512.Idx → F .f32) (t : ℕ) (_ : Unit) : sProp 𝕄 :=
  iprop(((bM).view.loc (thr d L) ↦{fullShare} (y : Buf (Elt F) ((thr d L).loc cc1_scratch0)))
    ∗ ∃ g : Buf (Elt F) ((thr d L).loc cc1_scratch1), ⌜Done y t g⌝ ∗ ((rM).view.loc (thr d L) ↦{fullShare} g))

/-- A trip's store extends the results by sixteen. -/
theorem store_step (y : S16x512.Idx → F .f32) (k : Fin k1_t1_loop.trips) (g : S512.Idx → F .f32) (w : FVec F S16 .f32)
    (hg : Done y k.val g) (hw : ∀ x, w x = lane fun e => y (ix2 e (col k x))) :
    Done y (k.val + 1) ((rM).view.writes (Elt F) g [⟨Rect.unit (s := S512) (k1_off18 k) S16.size (k1_off18_inb k), w⟩]) := by
  intro i hi
  by_cases h : (i 0).val < 16 * k.val
  · refine (View.read_writes_cons_unit_of_not_mem (Val := Elt F) (rM).view g (k1_off18_inb k) w [] i (k1_off18_eq k) 0 (.inl h)).trans (hg i h)
  · let x : S16.Idx := ix1 ⟨(i 0).val - 16 * k.val, by omega⟩
    have hx : (x 0).val = (i 0).val - 16 * k.val := rfl
    refine (View.read_writes_cons_unit_of_mem (Val := Elt F) (rM).view g (k1_off18_inb k) w [] i x (k1_off18_eq k) fun a => ?_).trans ?_
    · have ha : a = (0 : Fin 1) := Subsingleton.elim (α := Fin 1) _ _
      subst ha
      show (i 0).val = 16 * k.val + (x 0).val
      omega
    · rw [hw]
      have hc : col k x = i 0 := Fin.ext (by show 16 * k.val + (x 0).val = (i 0).val; omega)
      rw [hc]

/-- The task's columns of the logits. -/
def cols (L : grid1.Coords) (Y : S16x16384.Idx → F .f32) : S16x512.Idx → F .f32 := fun i => Y ((colR L).emb i)

/-- The task's results are the routed columns where its part of the array lies. -/
theorem seg_value (L : grid1.Coords) (Y : S16x16384.Idx → F .f32) (g : S512.Idx → F .f32) (hg : Done (cols L Y) 32 g) (x : S512.Idx) :
    g x = routeOut Y ((segR L).emb x) := by
  have hx : (x 0).val < 512 := (x 0).isLt
  rw [hg x (by omega)]
  unfold routeOut
  congr 1
  funext e
  refine congrArg Y ?_
  have h1 := k1_off1_eq L
  have h2 := k1_off19_eq L
  funext a
  apply Fin.ext
  fin_cases a
  · show k1_off1 L 0 + 1 * e.val = e.val
    rw [h1]
    show 0 + 1 * e.val = e.val
    omega
  · show k1_off1 L 1 + 1 * (x 0).val = k1_off19 L 0 + 1 * (x 0).val
    rw [h1, h2]
    rfl

theorem set_cols : ((yM).slice (colR L) (fun _ => rfl)).view.set = colSet L := by
  show ((yM).view.slice (colR L)).set = (colR L).set
  rw [View.set_slice]; exact Finset.map_refl
theorem set_seg : ((oM).slice (segR L) (fun _ => rfl)).view.set = segSet L := by
  show ((oM).view.slice (segR L)).set = (segR L).set
  rw [View.set_slice]; exact Finset.map_refl

/-- The columns, and the part of the result, as the task's copies address them. -/
theorem pts_cols (f : Buf (Elt F) (yLoc d)) :
    (((yM).slice (colR L) (fun _ => rfl)).view.loc (thr d L) ↦[((yM).slice (colR L) (fun _ => rfl)).view.set]{fullShare} f : sProp 𝕄)
      = (yLoc d ↦[colSet L]{fullShare} f) := by
  rw [set_cols]
theorem pts_seg (f : Buf (Elt F) (oLoc d)) :
    (((oM).slice (segR L) (fun _ => rfl)).view.loc (thr d L) ↦[((oM).slice (segR L) (fun _ => rfl)).view.set]{fullShare} f : sProp 𝕄)
      = (oLoc d ↦[segSet L]{fullShare} f) := by
  rw [set_seg]

/-- The part of the result after the copy out: the routed columns. -/
theorem seg_out (Y : S16x16384.Idx → F .f32) (g : S512.Idx → F .f32) (fo : Buf (Elt F) (oLoc d)) (hg : Done (cols L Y) 32 g) :
    (((oM).slice (segR L) (fun _ => rfl)).view.loc (thr d L) ↦[((oM).slice (segR L) (fun _ => rfl)).view.set]{fullShare}
        ((oM).slice (segR L) (fun _ => rfl)).view.writes (Elt F) fo [⟨Rect.whole (segR L).shape, g⟩] : sProp 𝕄)
      ⊢ oLoc d ↦[segSet L]{fullShare} (routeOut Y : Buf (Elt F) (oLoc d)) := by
  have hv : ∀ i ∈ segSet L, ((oM).slice (segR L) (fun _ => rfl)).view.writes (Elt F) fo [⟨Rect.whole (segR L).shape, g⟩] i = routeOut Y i := by
    intro i hi
    obtain ⟨x, rfl⟩ := (segR L).exists_idx_of_mem hi
    refine Eq.trans ?_ (seg_value L Y g hg x)
    exact congrFun (View.read_writes_whole ((oM).slice (segR L) (fun _ => rfl)).view fo g) x
  exact Entails.of_eq ((pts_seg d L _).trans (pointsTo_congr hv))

set_option maxHeartbeats 4000000 in
theorem tile_body (Y : (d : Dev nD) → Buf (Elt F) (yLoc d)) (hF : (K (F := F)).Facts) (O : CellTallies nD τ sig (HIx 2)) (W : Waits sig (HIx 2)) (hO : ∀ g, O g none = 0) :
    iprop(levAts (K (F := F)).L (K (F := F)).lev ∗ emp ∗ goA Y d L
        ∗ scopedBufs (thr d L) ∗ scopedSems0 (thr d L) ∗ owes (thr d L) O W)
      ⊢ wp frame (wpE (defs₀ (F := F)) 𝒱₀ (thr d L) none) Set.univ
          (cc1__route L yM (Memref.isWhole_whole _) oM (Memref.isWhole_whole _) bM (Memref.isWhole_whole _) rM (Memref.isWhole_whole _) cc1_scoped0 cc1_scoped1)
          fun _ => iprop(tdA Y d L ∗ scopedBufs (thr d L) ∗ scopedSems0 (thr d L)
            ∗ ∃ W', ⌜∀ p ∈ W', p ∈ W ∨ p.2 = none ∨ p.2 = some (0 : Fin 2)⌝ ∗ owes (thr d L) O W') := by
  rw [(K (F := F)).scopedBufs_V hF d (cV L) (jV L), SparseCore.Cfg.scopedSems0_V (Val := Elt F) d (cV L) (jV L), ownSems0_thr, ownBufs_thr]
  iintro ⟨#Hlv, -, ⟨Hy, %fo, Ho⟩, ⟨⟨%fb, Hb⟩, ⟨%fr, Hr⟩, Hbufs⟩, ⟨HsemA, HsemB, Hsems⟩, HO⟩
  ihave Hmw := (show levAts (K (F := F)).L (K (F := F)).lev ⊢ Transfers.MayWaits (thr d L) (default : HIx 2) O from
    (K (F := F)).mayWaits_none (thr := thr d L) hO) $$ Hlv
  ihave Hy' := (Entails.of_eq (pts_cols d L (Y d)).symm) $$ Hy
  ihave Ho' := (Entails.of_eq (pts_seg d L fo).symm) $$ Ho
  ihave Hb' := (show ((thr d L).loc cc1_scratch0 ↦{fullShare} fb : sProp 𝕄) ⊢ (bM).view.loc (thr d L) ↦{fullShare} fb from .rfl) $$ Hb
  ihave Hr' := (show ((thr d L).loc cc1_scratch1 ↦{fullShare} fr : sProp 𝕄) ⊢ (rM).view.loc (thr d L) ↦{fullShare} fr from .rfl) $$ Hr
  rw [cc1__route_eq_skeleton]; unfold cc1__route_skel
  sl_exec
  sl_for (inv d L (cols L (Y d))) $$ [Hb' Hr']
  case region =>
    intro k _
    unfold inv
    iintro ⟨Hb, %g, %hg, Hr⟩
    iapply (wp_wand_r Idealize.ShloMosaic.frame (wpE (defs₀ (F := F)) 𝒱₀ (thr d L) none) Set.univ)
    isplitl [Hb Hr]
    · iapply (trip d L k (cols L (Y d)) g)
      isplitl [Hb]; · iexact Hb
      iexact Hr
    · iintro %_ ⟨Hb, %w, %hw, Hr⟩
      isplitl [Hb]; · iexact Hb
      iexists _
      isplitr
      swap; · iexact Hr
      ipureintro
      exact store_step _ k g w hg hw
  · unfold inv
    isplitl [Hb']
    · ihave Hb2 := (show ((bM).view.loc (thr d L) ↦{fullShare} View.write (Elt F) (bM).view fb (tile_body.sl.dma0 d L Y) Finset.univ : sProp 𝕄)
        ⊢ ((bM).view.loc (thr d L) ↦{fullShare} (cols L (Y d) : Buf (Elt F) ((thr d L).loc cc1_scratch0))) from Entails.of_eq (by
          rw [View.write_whole_univ]; rfl)) $$ Hb'
      iexact Hb2
    · iexists fr
      isplitr
      · ipureintro; intro i hi; exact absurd hi (by omega)
      · iexact Hr'
  iintro %_ HI
  unfold inv
  icases HI with ⟨Hb, %g, %hg, Hr⟩
  sl_exec
  sl_step
  isplitl [Hy' Ho']
  · isplitl [Hy']; · iapply (Entails.of_eq (pts_cols d L _)); iexact Hy'
    iapply (seg_out d L (Y d) g fo hg); iexact Ho'
  isplitl [Hb Hr Hbufs]
  · isplitl [Hb]; · iexists _; iexact Hb
    isplitl [Hr]; · iexists _; iexact Hr
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp
  · exact .inr (.inl (hp ▸ rfl))
  rcases Finset.mem_insert.mp hp with hp | hp
  · exact .inr (.inl (hp ▸ rfl))
  · exact .inl hp

end Cert.Proof

end
-- ==== Proof.Tile2.lean ====
/-
  One SparseCore task of the second call, which runs the first call's body on the second half's arrays and its own scratches;
  and what the launch asks of a task of either call.
-/
module

public import proofs.«01_k».proof.Proof.Tile
public import Idealize.ShloMosaic.Lib.WritesUnit

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F] [Named F]

local notation "𝕄" => MT nD τ sig (HIx 2) (Elt F) ℕ UU ℕ

variable (d : Dev nD) (L : grid1.Coords)

/-- The two scoped cells a task names. -/
abbrev inCell2 (d : Dev nD) (L : grid1.Coords) : GSem nD τ sig := (thr d L, .dma cc3_scoped0.sem)
abbrev outCell2 (d : Dev nD) (L : grid1.Coords) : GSem nD τ sig := (thr d L, .dma cc3_scoped1.sem)

theorem ownSems0_thr2 :
    (ownSems0 (thr d L) : sProp 𝕄)
      = iprop(semVal (inCell2 d L) 0 ∗ semVal (outCell2 d L) 0
          ∗ bigSep (((ownCells (thr d L)).erase (inCell2 d L)).erase (outCell2 d L)) fun g => semVal g 0) := by
  unfold SparseCore.Cfg.ownSems0
  rw [SparseCore.bigSep_erase' ((mem_ownCells (g := inCell2 d L)).mpr ⟨rfl, by
      show (SemLoc.dma cc3_scoped0.sem : SemLoc sig).isScoped .scVector = true; decide⟩),
    SparseCore.bigSep_erase' (Finset.mem_erase.mpr ⟨by simp [inCell2, outCell2]; decide, (mem_ownCells (g := outCell2 d L)).mpr ⟨rfl, by
      show (SemLoc.dma cc3_scoped1.sem : SemLoc sig).isScoped .scVector = true; decide⟩⟩)]

theorem ownBufs_thr2 :
    (ownBufs (thr d L) : sProp 𝕄)
      = iprop((∃ f, (thr d L).loc cc3_scratch0 ↦{fullShare} f) ∗ (∃ f, (thr d L).loc cc3_scratch1 ↦{fullShare} f)
          ∗ bigSep (((ownRefs (τ := τ) (.scVector (cV L) (jV L))).erase ((Proc.scVector (cV L) (jV L)).devRef cc3_scratch0)).erase
              ((Proc.scVector (cV L) (jV L)).devRef cc3_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩)]

/-- The loop's invariant before trip `t`: the staged columns at `y`, and the results of the first `16 t` of them in place. -/
def inv2 (y : S16x512.Idx → F .f32) (t : ℕ) (_ : Unit) : sProp 𝕄 :=
  iprop(((bM').view.loc (thr d L) ↦{fullShare} (y : Buf (Elt F) ((thr d L).loc cc3_scratch0)))
    ∗ ∃ g : Buf (Elt F) ((thr d L).loc cc3_scratch1), ⌜Done y t g⌝ ∗ ((rM').view.loc (thr d L) ↦{fullShare} g))

/-- A trip's store extends the results by sixteen. -/
theorem store_step2 (y : S16x512.Idx → F .f32) (k : Fin k1_t1_loop.trips) (g : S512.Idx → F .f32) (w : FVec F S16 .f32)
    (hg : Done y k.val g) (hw : ∀ x, w x = lane fun e => y (ix2 e (col k x))) :
    Done y (k.val + 1) ((rM').view.writes (Elt F) g [⟨Rect.unit (s := S512) (k1_off18 k) S16.size (k1_off18_inb k), w⟩]) :=
  store_step y k g w hg hw

theorem set_cols2 : ((yM').slice (colR L) (fun _ => rfl)).view.set = colSet L := by
  show ((yM').view.slice (colR L)).set = (colR L).set
  rw [View.set_slice]; exact Finset.map_refl
theorem set_seg2 : ((oM').slice (segR L) (fun _ => rfl)).view.set = segSet L := by
  show ((oM').view.slice (segR L)).set = (segR L).set
  rw [View.set_slice]; exact Finset.map_refl

/-- The columns, and the part of the result, as the task's copies address them. -/
theorem pts_cols2 (f : Buf (Elt F) (yLoc' d)) :
    (((yM').slice (colR L) (fun _ => rfl)).view.loc (thr d L) ↦[((yM').slice (colR L) (fun _ => rfl)).view.set]{fullShare} f : sProp 𝕄)
      = (yLoc' d ↦[colSet L]{fullShare} f) := by
  rw [set_cols2]
theorem pts_seg2 (f : Buf (Elt F) (oLoc' d)) :
    (((oM').slice (segR L) (fun _ => rfl)).view.loc (thr d L) ↦[((oM').slice (segR L) (fun _ => rfl)).view.set]{fullShare} f : sProp 𝕄)
      = (oLoc' d ↦[segSet L]{fullShare} f) := by
  rw [set_seg2]

/-- The part of the result after the copy out: the routed columns. -/
theorem seg_out2 (Y : S16x16384.Idx → F .f32) (g : S512.Idx → F .f32) (fo : Buf (Elt F) (oLoc' d)) (hg : Done (cols L Y) 32 g) :
    (((oM').slice (segR L) (fun _ => rfl)).view.loc (thr d L) ↦[((oM').slice (segR L) (fun _ => rfl)).view.set]{fullShare}
        ((oM').slice (segR L) (fun _ => rfl)).view.writes (Elt F) fo [⟨Rect.whole (segR L).shape, g⟩] : sProp 𝕄)
      ⊢ oLoc' d ↦[segSet L]{fullShare} (routeOut Y : Buf (Elt F) (oLoc' d)) := by
  have hv : ∀ i ∈ segSet L, ((oM').slice (segR L) (fun _ => rfl)).view.writes (Elt F) fo [⟨Rect.whole (segR L).shape, g⟩] i = routeOut Y i := by
    intro i hi
    obtain ⟨x, rfl⟩ := (segR L).exists_idx_of_mem hi
    refine Eq.trans ?_ (seg_value L Y g hg x)
    exact congrFun (View.read_writes_whole ((oM').slice (segR L) (fun _ => rfl)).view fo g) x
  exact Entails.of_eq ((pts_seg2 d L _).trans (pointsTo_congr hv))

set_option maxHeartbeats 4000000 in
theorem tile_body2 (Y : (d : Dev nD) → Buf (Elt F) (yLoc' d)) (hF : (K (F := F)).Facts) (O : CellTallies nD τ sig (HIx 2)) (W : Waits sig (HIx 2)) (hO : ∀ g, O g none = 0) :
    iprop(levAts (K (F := F)).L (K (F := F)).lev ∗ emp ∗ goB Y d L
        ∗ scopedBufs (thr d L) ∗ scopedSems0 (thr d L) ∗ owes (thr d L) O W)
      ⊢ wp frame (wpE (defs₀ (F := F)) 𝒱₀ (thr d L) none) Set.univ
          (cc1__route L yM' (Memref.isWhole_whole _) oM' (Memref.isWhole_whole _) bM' (Memref.isWhole_whole _) rM' (Memref.isWhole_whole _) cc3_scoped0 cc3_scoped1)
          fun _ => iprop(tdB Y d L ∗ scopedBufs (thr d L) ∗ scopedSems0 (thr d L)
            ∗ ∃ W', ⌜∀ p ∈ W', p ∈ W ∨ p.2 = none ∨ p.2 = some (1 : Fin 2)⌝ ∗ owes (thr d L) O W') := by
  rw [(K (F := F)).scopedBufs_V hF d (cV L) (jV L), SparseCore.Cfg.scopedSems0_V (Val := Elt F) d (cV L) (jV L), ownSems0_thr2, ownBufs_thr2]
  iintro ⟨#Hlv, -, ⟨Hy, %fo, Ho⟩, ⟨⟨%fb, Hb⟩, ⟨%fr, Hr⟩, Hbufs⟩, ⟨HsemA, HsemB, Hsems⟩, HO⟩
  ihave Hmw := (show levAts (K (F := F)).L (K (F := F)).lev ⊢ Transfers.MayWaits (thr d L) (default : HIx 2) O from
    (K (F := F)).mayWaits_none (thr := thr d L) hO) $$ Hlv
  ihave Hy' := (Entails.of_eq (pts_cols2 d L (Y d)).symm) $$ Hy
  ihave Ho' := (Entails.of_eq (pts_seg2 d L fo).symm) $$ Ho
  ihave Hb' := (show ((thr d L).loc cc3_scratch0 ↦{fullShare} fb : sProp 𝕄) ⊢ (bM').view.loc (thr d L) ↦{fullShare} fb from .rfl) $$ Hb
  ihave Hr' := (show ((thr d L).loc cc3_scratch1 ↦{fullShare} fr : sProp 𝕄) ⊢ (rM').view.loc (thr d L) ↦{fullShare} fr from .rfl) $$ Hr
  rw [cc1__route_eq_skeleton]; unfold cc1__route_skel
  sl_exec
  sl_for (inv2 d L (cols L (Y d))) $$ [Hb' Hr']
  case region =>
    intro k _
    unfold inv2
    iintro ⟨Hb, %g, %hg, Hr⟩
    iapply (wp_wand_r Idealize.ShloMosaic.frame (wpE (defs₀ (F := F)) 𝒱₀ (thr d L) none) Set.univ)
    isplitl [Hb Hr]
    · iapply (trip2 d L k (cols L (Y d)) g)
      isplitl [Hb]; · iexact Hb
      iexact Hr
    · iintro %_ ⟨Hb, %w, %hw, Hr⟩
      isplitl [Hb]; · iexact Hb
      iexists _
      isplitr
      swap; · iexact Hr
      ipureintro
      exact store_step2 _ k g w hg hw
  · unfold inv2
    isplitl [Hb']
    · ihave Hb2 := (show ((bM').view.loc (thr d L) ↦{fullShare} View.write (Elt F) (bM').view fb (tile_body2.sl.dma0 d L Y) Finset.univ : sProp 𝕄)
        ⊢ ((bM').view.loc (thr d L) ↦{fullShare} (cols L (Y d) : Buf (Elt F) ((thr d L).loc cc3_scratch0))) from Entails.of_eq (by
          rw [View.write_whole_univ]; rfl)) $$ Hb'
      iexact Hb2
    · iexists fr
      isplitr
      · ipureintro; intro i hi; exact absurd hi (by omega)
      · iexact Hr'
  iintro %_ HI
  unfold inv2
  icases HI with ⟨Hb, %g, %hg, Hr⟩
  sl_exec
  sl_step
  isplitl [Hy' Ho']
  · isplitl [Hy']; · iapply (Entails.of_eq (pts_cols2 d L _)); iexact Hy'
    iapply (seg_out2 d L (Y d) g fo hg); iexact Ho'
  isplitl [Hb Hr Hbufs]
  · isplitl [Hb]; · iexists _; iexact Hb
    isplitl [Hr]; · iexists _; iexact Hr
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp
  · exact .inr (.inl (hp ▸ rfl))
  rcases Finset.mem_insert.mp hp with hp | hp
  · exact .inr (.inl (hp ▸ rfl))
  · exact .inl hp

/-! ## What the launch asks of a task -/

theorem defs₀_vector0 (c : Fin τ.nSC) (s : Fin τ.nSub) :
    defs₀ (F := F) (.scVector c s) 1 ()
      = SparseCore.onTile hcore1 hsub1 (fun c s => cc1__route (crd c s)
          yM (Memref.isWhole_whole _) oM (Memref.isWhole_whole _) bM (Memref.isWhole_whole _) rM (Memref.isWhole_whole _) cc1_scoped0 cc1_scoped1) ⟨⟩ c s := rfl

theorem defs₀_vector1 (c : Fin τ.nSC) (s : Fin τ.nSub) :
    defs₀ (F := F) (.scVector c s) 3 ()
      = SparseCore.onTile hcore1 hsub1 (fun c s => cc1__route (crd c s)
          yM' (Memref.isWhole_whole _) oM' (Memref.isWhole_whole _) bM' (Memref.isWhole_whole _) rM' (Memref.isWhole_whole _) cc3_scoped0 cc3_scoped1) ⟨⟩ c s := rfl

variable (YA : (d : Dev nD) → Buf (Elt F) (yLoc d)) (YB : (d : Dev nD) → Buf (Elt F) (yLoc' d))

theorem tileObl0 : (K (F := F)).TileObl D 𝒱 (P YA YB) v₀ 0 := by
  intro d c i O W hO _ _
  simp only [show (P YA YB).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (.scVector ((K (F := F)).core 0 c) ((K (F := F)).sub 0 i)) 1 ())) _
  refine BI.Entails.trans ?_ (Pipeline.wp_liftProg D (Pipeline.defs_kernel pcfgs defs₀) 𝒱₀ _ Set.univ none _ _)
  rw [defs₀_vector0]
  simp only [SparseCore.onTile, hci, and_self, ↓reduceDIte]
  exact tile_body d (crd ⟨_, hci.1⟩ ⟨_, hci.2⟩) YA facts O W hO

theorem tileObl1 : (K (F := F)).TileObl D 𝒱 (P YA YB) v₀ 1 := by
  intro d c i O W hO _ _
  simp only [show (P YA YB).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (.scVector ((K (F := F)).core 1 c) ((K (F := F)).sub 1 i)) 3 ())) _
  refine BI.Entails.trans ?_ (Pipeline.wp_liftProg D (Pipeline.defs_kernel pcfgs defs₀) 𝒱₀ _ Set.univ none _ _)
  rw [defs₀_vector1]
  simp only [SparseCore.onTile, hci, and_self, ↓reduceDIte]
  exact tile_body2 d (crd ⟨_, hci.1⟩ ⟨_, hci.2⟩) YB facts O W hO

end Cert.Proof

end
-- ==== Proof.Main.lean ====
/-
  @main on the TensorCore: the host operations, the two regions and the two SparseCore calls, each taking the unscoped buffers
  from one valuation to the next; the launch's resources; the run.
-/
module

public import proofs.«01_k».proof.Proof.Proj2
public import proofs.«01_k».proof.Proof.Split
public import proofs.«01_k».proof.Proof.Tile2

@[expose] public section

noncomputable section

namespace Cert.Proof

open Cert.KernelIdeal Cert.KernelIdeal.Gen

open Idealize.ShloMosaic
open Idealize.ShloMosaic.TcCoe
open Idealize.ShloMosaic.StableHlo (held seq after)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

/-! ## The unscoped buffers at a valuation -/

/-- A buffer as the valuations name it. -/
abbrev dr (b : Ref sig .tc) : DevRef τ sig := Proc.devRef .tc b

/-- The TensorCore's unscoped buffers. -/
def ucRefs : Finset (DevRef τ sig) := (StableHlo.tcRefs τ sig).filter fun b => ¬ b.isScoped

theorem unscopedBufs_held (c : Dev nD) (W : Valuation τ sig (Elt F)) :
    (unscopedBufs c (fun b => W (dr b)) : sProp 𝕄) = held (c : Thread nD τ) ucRefs W := by
  unfold unscopedBufs held ucRefs StableHlo.tcRefs
  rw [Finset.filter_map, bigSep_map]
  rfl

/-! ## The valuations -/

/-- The lines before the first region. -/
def ops0 : List (HloOp τ sig (Elt F)) :=
  [StableHlo.reshape main_arg0 main_v0 (rfl : (.f32 : EltTy) = .f32) shapeCasts_S4x8192x768_S32768x768,
   StableHlo.unary main_arg3 main_v1 ((transpose S768x8 [1, 0] · transposes_S8x768_S768x8_1_0) : (⟨S8x768, .f32⟩ : BufTy).Contents (Elt F) → (⟨S768x8, .f32⟩ : BufTy).Contents (Elt F)),
   StableHlo.binary main_arg1 main_v1 main_v2 ((fun a b => concatenate S768x16 1 [⟨S768x8, a⟩, ⟨S768x8, b⟩] concatenates_S768x8_S768x8_S768x16_d1) : (⟨S768x8, .f32⟩ : BufTy).Contents (Elt F) → (⟨S768x8, .f32⟩ : BufTy).Contents (Elt F) → (⟨S768x16, .f32⟩ : BufTy).Contents (Elt F)),
   StableHlo.binary main_arg2 main_arg4 main_v3 ((fun a b => concatenate S16 0 [⟨S8, a⟩, ⟨S8, b⟩] concatenates_S8_S8_S16_d0) : (⟨S8, .f32⟩ : BufTy).Contents (Elt F) → (⟨S8, .f32⟩ : BufTy).Contents (Elt F) → (⟨S16, .f32⟩ : BufTy).Contents (Elt F)),
   StableHlo.reshape main_v3 main_v4 (rfl : (.f32 : EltTy) = .f32) shapeCasts_S16_S1x16,
   StableHlo.unary main_v0 main_v5 ((extractStridedSlice S16384x768 ![0, 0] · slices_S32768x768_S16384x768_0_0) : (⟨S32768x768, .f32⟩ : BufTy).Contents (Elt F) → (⟨S16384x768, .f32⟩ : BufTy).Contents (Elt F))]
/-- The line between the two halves. -/
def ops1 : List (HloOp τ sig (Elt F)) :=
  [StableHlo.unary main_v0 main_v8 ((extractStridedSlice S16384x768 ![16384, 0] · slices_S32768x768_S16384x768_16384_0) : (⟨S32768x768, .f32⟩ : BufTy).Contents (Elt F) → (⟨S16384x768, .f32⟩ : BufTy).Contents (Elt F))]
/-- The lines after the second call. -/
def ops2 : List (HloOp τ sig (Elt F)) :=
  [StableHlo.binary main_v7 main_v10 main_v11 ((fun a b => concatenate S32768 0 [⟨S16384, a⟩, ⟨S16384, b⟩] concatenates_S16384_S16384_S32768_d0) : (⟨S16384, .f32⟩ : BufTy).Contents (Elt F) → (⟨S16384, .f32⟩ : BufTy).Contents (Elt F) → (⟨S32768, .f32⟩ : BufTy).Contents (Elt F)),
   StableHlo.reshape main_v11 main_v12 (rfl : (.f32 : EltTy) = .f32) shapeCasts_S32768_S4x8192x1]

/-- @main in its parts. -/
theorem main_eq (d : Dev nD) : main (F := F) d = (do
    seq ops0
    Prog.lift (.customCall (SparseCore.inner (Pipeline.entry 0)) ())
    sc.run d 0
    seq ops1
    Prog.lift (.customCall (SparseCore.inner (Pipeline.entry 1)) ())
    sc.run d 1
    seq ops2) := by
  simp only [main, ops0, ops1, ops2, seq, bind_assoc, pure_bind]

variable (m : (ℓ : Loc nD τ sig) → Buf (Elt F) ℓ)

def W0 (d : Dev nD) : Valuation τ sig (Elt F) := fun b => m (d, b)
def W1 (d : Dev nD) : Valuation τ sig (Elt F) := after ops0 (W0 m d)
/-- After the first region: the first half's logits. -/
def W2 (d : Dev nD) : Valuation τ sig (Elt F) :=
  Function.update (W1 m d) (dr main_v6) (proj0 (F := F) (W1 m d (dr main_v5)) (W1 m d (dr main_v2)) (W1 m d (dr main_v4)))
/-- After the first call: the first half routed. -/
def W3 (d : Dev nD) : Valuation τ sig (Elt F) := Function.update (W2 m d) (dr main_v7) (routeOut (F := F) (W2 m d (dr main_v6)))
def W4 (d : Dev nD) : Valuation τ sig (Elt F) := after ops1 (W3 m d)
def W5 (d : Dev nD) : Valuation τ sig (Elt F) :=
  Function.update (W4 m d) (dr main_v9) (proj0 (F := F) (W4 m d (dr main_v8)) (W4 m d (dr main_v2)) (W4 m d (dr main_v4)))
def W6 (d : Dev nD) : Valuation τ sig (Elt F) := Function.update (W5 m d) (dr main_v10) (routeOut (F := F) (W5 m d (dr main_v9)))
def W7 (d : Dev nD) : Valuation τ sig (Elt F) := after ops2 (W6 m d)

/-- The logits that the two calls are handed. -/
abbrev YA (d : Dev nD) : Buf (Elt F) (yLoc d) := W2 m d (dr main_v6)
abbrev YB (d : Dev nD) : Buf (Elt F) (yLoc' d) := W5 m d (dr main_v9)

/-! ## The regions, under the whole program's table -/

/-- The pipelines' ghost state that a device's TensorCore is dealt for region `p`. -/
def ghost (p : Fin 2) (d : Dev nD) : sProp 𝕄 :=
  iprop(Pipeline.cellsGhost (Pipeline.pin (pcfgs (F := F)) adm) EP p d ∗ Pipeline.toksInit (Pipeline.pin (pcfgs (F := F)) adm) EP p d)

theorem inj : Function.Injective (Pipeline.cellOf (nD := nD) (τ := τ) (Pipeline.pin (pcfgs (F := F)) adm)) := cellOf_inj

/-- A step of the TensorCore's between two lines: from the buffers at `A` before call `n` to the buffers at `B`. -/
abbrev stAt (d : Dev nD) (n : ℕ) (A : Valuation τ sig (Elt F)) : sProp 𝕄 :=
  iprop((K (F := F)).tcSt EH d n ∗ boundary (T d) ∗ held (T d) ucRefs A)

theorem region0 (κ : GSem nD τ sig → ℕ) (YA YB) (d : Dev nD) (n : ℕ) (A B : (d : Dev nD) → Valuation τ sig (Elt F))
    (hB : ∀ d, B d (dr main_v6) = proj0 (F := F) (A d (dr main_v5)) (A d (dr main_v2)) (A d (dr main_v4)))
    (hne : ∀ d (b : Ref sig .tc), b ≠ main_v6 → B d (dr b) = A d (dr b)) :
    iprop((K (F := F)).ctx EH (P YA YB) κ ∗ stAt d n (A d) ∗ ghost 0 d)
      ⊢ wp frame (wpE ((K (F := F)).defs (D (F := F))) 𝒱 (T d) none) Set.univ (Prog.lift (.customCall (SparseCore.inner (Pipeline.entry 0)) ())) fun _ => stAt d n (B d) := by
  have hrun := Pipeline.RegionSeg.wp (pcfgs (F := F)) adm (pdats (fun c b => A c (dr b)) n) none inj EP (defs₀ (F := F)) 𝒱₀ (K (F := F)).L (K (F := F)).lev
    (reg (fun c b => A c (dr b)) n (fun c b => B c (dr b)) hB hne) d none (fun u h => nomatch h) (α := PUnit) (fun _ => Prog.ret PUnit.unit)
    (fun _ => iprop(boundary (T d) ∗ unscopedBufs d (fun b => B d (dr b)) ∗ ∃ W, ⌜(K (F := F)).WBelow (T d) W (8 * n)⌝ ∗ owes (T d) ((K (F := F)).Otc d n) W))
  rw [reg_pre, reg_post] at hrun
  unfold stAt SparseCore.Cfg.tcSt
  rw [← unscopedBufs_held, ← unscopedBufs_held]
  iintro ⟨#Hctx, ⟨⟨HO, Hrest⟩, Hb, Hub⟩, Hg⟩
  ihave #Hlv := ((K (F := F)).ctx_levAts (EH := EH) (P := P YA YB) κ) $$ Hctx
  unfold ghost
  icases Hg with ⟨Hg, Ht⟩
  iapply (wp_wand_r Idealize.ShloMosaic.frame (wpE ((K (F := F)).defs (D (F := F))) 𝒱 (T d) none) Set.univ)
  isplitl [HO Hb Hub Hg Ht]
  · iapply ((K (F := F)).wp_liftProg (D (F := F)) 𝒱 (T d) Set.univ none (Prog.lift (.customCall (Pipeline.entry 0) ())) _)
    iapply hrun
    isplitr
    · iintro ⟨Hb, Hub, HO⟩
      rw [wp_ret]; imodintro
      isplitl [Hb]; · iexact Hb
      isplitl [Hub] <;> iassumption
    isplitl [Hb]; · iexact Hb
    isplitl [Hub HO]
    · isplitl [Hub] <;> iassumption
    isplitr; · iexact Hlv
    isplitl [Hg] <;> iassumption
  · iintro %u ⟨Hb, Hub, HO⟩
    isplitl [HO Hrest]
    · isplitl [HO] <;> iassumption
    isplitl [Hb] <;> iassumption

theorem region1 (κ : GSem nD τ sig → ℕ) (YA YB) (d : Dev nD) (n : ℕ) (A B : (d : Dev nD) → Valuation τ sig (Elt F))
    (hB : ∀ d, B d (dr main_v9) = proj0 (F := F) (A d (dr main_v8)) (A d (dr main_v2)) (A d (dr main_v4)))
    (hne : ∀ d (b : Ref sig .tc), b ≠ main_v9 → B d (dr b) = A d (dr b)) :
    iprop((K (F := F)).ctx EH (P YA YB) κ ∗ stAt d n (A d) ∗ ghost 1 d)
      ⊢ wp frame (wpE ((K (F := F)).defs (D (F := F))) 𝒱 (T d) none) Set.univ (Prog.lift (.customCall (SparseCore.inner (Pipeline.entry 1)) ())) fun _ => stAt d n (B d) := by
  have hrun := Pipeline.RegionSeg.wp (pcfgs (F := F)) adm (pdats' (fun c b => A c (dr b)) n) none inj EP (defs₀ (F := F)) 𝒱₀ (K (F := F)).L (K (F := F)).lev
    (reg' (fun c b => A c (dr b)) n (fun c b => B c (dr b)) hB hne) d none (fun u h => nomatch h) (α := PUnit) (fun _ => Prog.ret PUnit.unit)
    (fun _ => iprop(boundary (T d) ∗ unscopedBufs d (fun b => B d (dr b)) ∗ ∃ W, ⌜(K (F := F)).WBelow (T d) W (8 * n)⌝ ∗ owes (T d) ((K (F := F)).Otc d n) W))
  rw [reg_pre', reg_post'] at hrun
  unfold stAt SparseCore.Cfg.tcSt
  rw [← unscopedBufs_held, ← unscopedBufs_held]
  iintro ⟨#Hctx, ⟨⟨HO, Hrest⟩, Hb, Hub⟩, Hg⟩
  ihave #Hlv := ((K (F := F)).ctx_levAts (EH := EH) (P := P YA YB) κ) $$ Hctx
  unfold ghost
  icases Hg with ⟨Hg, Ht⟩
  iapply (wp_wand_r Idealize.ShloMosaic.frame (wpE ((K (F := F)).defs (D (F := F))) 𝒱 (T d) none) Set.univ)
  isplitl [HO Hb Hub Hg Ht]
  · iapply ((K (F := F)).wp_liftProg (D (F := F)) 𝒱 (T d) Set.univ none (Prog.lift (.customCall (Pipeline.entry 1) ())) _)
    iapply hrun
    isplitr
    · iintro ⟨Hb, Hub, HO⟩
      rw [wp_ret]; imodintro
      isplitl [Hb]; · iexact Hb
      isplitl [Hub] <;> iassumption
    isplitl [Hb]; · iexact Hb
    isplitl [Hub HO]
    · isplitl [Hub] <;> iassumption
    isplitr; · iexact Hlv
    isplitl [Hg] <;> iassumption
  · iintro %u ⟨Hb, Hub, HO⟩
    isplitl [HO Hrest]
    · isplitl [HO] <;> iassumption
    isplitl [Hb] <;> iassumption

/-! ## The calls -/

/-- Two buffers out of the unscoped ones. -/
theorem held_two (d : Dev nD) (b b' : Ref sig .tc) (hb : ({dr b, dr b'} : Finset (DevRef τ sig)) ⊆ ucRefs) (hne : dr b ∉ ({dr b'} : Finset (DevRef τ sig)))
    (A : Valuation τ sig (Elt F)) :
    (held (T d) ucRefs A : sProp 𝕄)
      = iprop(((((SparseCore.T d).loc b) ↦{fullShare} A (dr b)) ∗ (((SparseCore.T d).loc b') ↦{fullShare} A (dr b'))) ∗ held (T d) (ucRefs \ {dr b, dr b'}) A) := by
  rw [StableHlo.held_sub_split (T d) hb A]
  congr 1
  unfold held
  rw [SparseCore.bigSep_insert' hne, bigSep_singleton]

/-- The others do not see an update of one of the two. -/
theorem held_rest (d : Dev nD) (b b' : Ref sig .tc) (A : Valuation τ sig (Elt F)) (f : (dr b').ty.Contents (Elt F)) :
    (held (T d) (ucRefs \ {dr b, dr b'}) (Function.update A (dr b') f) : sProp 𝕄) = held (T d) (ucRefs \ {dr b, dr b'}) A := by
  unfold held
  refine bigSep_congr fun x hx => ?_
  rw [Function.update_of_ne]
  rintro rfl
  simp at hx

theorem call0 (κ : GSem nD τ sig → ℕ) (YA YB) (d : Dev nD) (A : Valuation τ sig (Elt F)) (hA : YA d = A (dr main_v6)) :
    iprop((K (F := F)).ctx EH (P YA YB) κ ∗ stAt d 0 A)
      ⊢ wp frame (wpE ((K (F := F)).defs (D (F := F))) 𝒱 (T d) none) Set.univ ((K (F := F)).run d 0)
          fun _ => stAt d 1 (Function.update A (dr main_v7) (routeOut (F := F) (A (dr main_v6)))) := by
  unfold stAt
  rw [held_two d main_v6 main_v7 (by decide) (by decide) A,
    held_two d main_v6 main_v7 (by decide) (by decide) (Function.update A (dr main_v7) (routeOut (F := F) (A (dr main_v6)))), held_rest,
    Function.update_self, Function.update_of_ne (show dr main_v6 ≠ dr main_v7 by decide)]
  iintro ⟨#Hctx, Hst, Hb, ⟨Hy, Ho⟩, Hrest⟩
  iapply ((K (F := F)).wp_run (D (F := F)) 𝒱 (EH := EH) (P := P YA YB) κ d 0) $$ [Hst Hy Ho Hb Hrest]
  isplitr; · iexact Hctx
  isplitl [Hst]; · iexact Hst
  isplitl [Hy Ho]
  · iapply (st_of_whole YA YB d)
    rw [hA]
    isplitl [Hy]; · iexact Hy
    iexists _; iexact Ho
  iintro ⟨Hst, Hdn⟩
  ihave H := (whole_of_dn YA YB d) $$ Hdn
  rw [hA]
  icases H with ⟨Hy, Ho⟩
  isplitl [Hst]; · iexact Hst
  isplitl [Hb]; · iexact Hb
  isplitl [Hy Ho]
  · isplitl [Hy] <;> iassumption
  iexact Hrest

theorem call1 (κ : GSem nD τ sig → ℕ) (YA YB) (d : Dev nD) (A : Valuation τ sig (Elt F)) (hA : YB d = A (dr main_v9)) :
    iprop((K (F := F)).ctx EH (P YA YB) κ ∗ stAt d 1 A)
      ⊢ wp frame (wpE ((K (F := F)).defs (D (F := F))) 𝒱 (T d) none) Set.univ ((K (F := F)).run d 1)
          fun _ => stAt d 2 (Function.update A (dr main_v10) (routeOut (F := F) (A (dr main_v9)))) := by
  unfold stAt
  rw [held_two d main_v9 main_v10 (by decide) (by decide) A,
    held_two d main_v9 main_v10 (by decide) (by decide) (Function.update A (dr main_v10) (routeOut (F := F) (A (dr main_v9)))), held_rest,
    Function.update_self, Function.update_of_ne (show dr main_v9 ≠ dr main_v10 by decide)]
  iintro ⟨#Hctx, Hst, Hb, ⟨Hy, Ho⟩, Hrest⟩
  iapply ((K (F := F)).wp_run (D (F := F)) 𝒱 (EH := EH) (P := P YA YB) κ d 1) $$ [Hst Hy Ho Hb Hrest]
  isplitr; · iexact Hctx
  isplitl [Hst]; · iexact Hst
  isplitl [Hy Ho]
  · iapply (st_of_whole2 YA YB d)
    rw [hA]
    isplitl [Hy]; · iexact Hy
    iexists _; iexact Ho
  iintro ⟨Hst, Hdn⟩
  ihave H := (whole_of_dn2 YA YB d) $$ Hdn
  rw [hA]
  icases H with ⟨Hy, Ho⟩
  isplitl [Hst]; · iexact Hst
  isplitl [Hb]; · iexact Hb
  isplitl [Hy Ho]
  · isplitl [Hy] <;> iassumption
  iexact Hrest

/-! ## @main -/

/-- A straight line takes the buffers to what its operations make of them. -/
theorem line (κ : GSem nD τ sig → ℕ) (YA YB) (d : Dev nD) (n : ℕ) (ops : List (HloOp τ sig (Elt F))) (hS : ∀ op ∈ ops, op.bufs ⊆ ucRefs) (hf : ∀ op ∈ ops, op.fresh = ∅)
    (A : Valuation τ sig (Elt F)) :
    iprop((K (F := F)).ctx EH (P YA YB) κ ∗ stAt d n A)
      ⊢ wp frame (wpE ((K (F := F)).defs (D (F := F))) 𝒱 (T d) none) Set.univ (seq ops) fun _ => stAt d n (after ops A) := by
  rw [← bind_pure (seq ops)]
  unfold stAt
  iintro ⟨-, Hst, Hb, Hh⟩
  iapply (StableHlo.wp_seq 𝒱 none Set.univ d ucRefs _ ops hS hf A) $$ [Hb Hh]
  · isplitl [Hb] <;> iassumption
  iintro ⟨Hb, Hh⟩
  rw [wp_pure]; imodintro
  isplitl [Hst]; · iexact Hst
  isplitl [Hb] <;> iassumption

theorem hops0 : ∀ op ∈ ops0 (F := F), op.bufs ⊆ ucRefs ∧ op.fresh = ∅ := by
  intro op hop
  simp only [ops0, List.mem_cons, List.not_mem_nil, or_false] at hop
  rcases hop with rfl | rfl | rfl | rfl | rfl | rfl
  · exact ⟨show ({dr main_arg0, dr main_v0} : Finset (DevRef τ sig)) ⊆ ucRefs by decide, rfl⟩
  · exact ⟨show ({dr main_arg3, dr main_v1} : Finset (DevRef τ sig)) ⊆ ucRefs by decide, rfl⟩
  · exact ⟨show ({dr main_arg1, dr main_v1, dr main_v2} : Finset (DevRef τ sig)) ⊆ ucRefs by decide, rfl⟩
  · exact ⟨show ({dr main_arg2, dr main_arg4, dr main_v3} : Finset (DevRef τ sig)) ⊆ ucRefs by decide, rfl⟩
  · exact ⟨show ({dr main_v3, dr main_v4} : Finset (DevRef τ sig)) ⊆ ucRefs by decide, rfl⟩
  · exact ⟨show ({dr main_v0, dr main_v5} : Finset (DevRef τ sig)) ⊆ ucRefs by decide, rfl⟩
theorem hops1 : ∀ op ∈ ops1 (F := F), op.bufs ⊆ ucRefs ∧ op.fresh = ∅ := by
  intro op hop
  simp only [ops1, List.mem_cons, List.not_mem_nil, or_false] at hop
  obtain rfl := hop
  exact ⟨show ({dr main_v0, dr main_v8} : Finset (DevRef τ sig)) ⊆ ucRefs by decide, rfl⟩
theorem hops2 : ∀ op ∈ ops2 (F := F), op.bufs ⊆ ucRefs ∧ op.fresh = ∅ := by
  intro op hop
  simp only [ops2, List.mem_cons, List.not_mem_nil, or_false] at hop
  rcases hop with rfl | rfl
  · exact ⟨show ({dr main_v7, dr main_v10, dr main_v11} : Finset (DevRef τ sig)) ⊆ ucRefs by decide, rfl⟩
  · exact ⟨show ({dr main_v11, dr main_v12} : Finset (DevRef τ sig)) ⊆ ucRefs by decide, rfl⟩

/-- What @main leaves the claim: every unscoped buffer at the last valuation. -/
abbrev FIN (d : Dev nD) : sProp 𝕄 := held (T d) ucRefs (W7 m d)

variable (ρ : Dev nD → PrngReg)

theorem hmain (κ : GSem nD τ sig → ℕ) (d : Dev nD) :
    iprop((K (F := F)).ctx EH (P (YA m) (YB m)) κ ∗ (K (F := F)).tcSt EH d 0 ∗ (K (F := F)).tcRes m ρ d ∗ (ghost 0 d ∗ ghost 1 d))
      ⊢ wp frame (wpE ((K (F := F)).defs (D (F := F))) 𝒱 (T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d).loc b)) : sProp 𝕄) = _ from unscopedBufs_held d (W0 m d), main_eq]
  simp only [wp_bind]
  iintro ⟨#Hctx, Hst, ⟨Hb, Hheld, Hts, -⟩, Hg0, Hg1⟩
  iapply (wp_wand_r Idealize.ShloMosaic.frame (wpE ((K (F := F)).defs (D (F := F))) 𝒱 (T d) none) Set.univ)
  isplitl [Hst Hb Hheld]
  · iapply (line κ (YA m) (YB m) d 0 ops0 (fun op h => (hops0 op h).1) (fun op h => (hops0 op h).2) (W0 m d))
    isplitr; · iexact Hctx
    isplitl [Hst]; · iexact Hst
    isplitl [Hb] <;> iassumption
  iintro %u Hs
  iapply (wp_wand_r Idealize.ShloMosaic.frame (wpE ((K (F := F)).defs (D (F := F))) 𝒱 (T d) none) Set.univ)
  isplitl [Hs Hg0]
  · iapply (region0 κ (YA m) (YB m) d 0 (W1 m) (W2 m) (fun d => Function.update_self _ _ _)
      (fun d b h => Function.update_of_ne (fun e => h (Proc.devRef_injective _ e)) _ _))
    isplitr; · iexact Hctx
    isplitl [Hs]; · iexact Hs
    first | iexact Hg0 | iexact Hg1
  iintro %u Hs
  iapply (wp_wand_r Idealize.ShloMosaic.frame (wpE ((K (F := F)).defs (D (F := F))) 𝒱 (T d) none) Set.univ)
  isplitl [Hs]
  · iapply (call0 κ (YA m) (YB m) d (W2 m d) rfl)
    isplitr; · iexact Hctx
    iexact Hs
  iintro %u Hs
  iapply (wp_wand_r Idealize.ShloMosaic.frame (wpE ((K (F := F)).defs (D (F := F))) 𝒱 (T d) none) Set.univ)
  isplitl [Hs]
  · iapply (line κ (YA m) (YB m) d 1 ops1 (fun op h => (hops1 op h).1) (fun op h => (hops1 op h).2) (W3 m d))
    isplitr; · iexact Hctx
    iexact Hs
  iintro %u Hs
  iapply (wp_wand_r Idealize.ShloMosaic.frame (wpE ((K (F := F)).defs (D (F := F))) 𝒱 (T d) none) Set.univ)
  isplitl [Hs Hg1]
  · iapply (region1 κ (YA m) (YB m) d 1 (W4 m) (W5 m) (fun d => Function.update_self _ _ _)
      (fun d b h => Function.update_of_ne (fun e => h (Proc.devRef_injective _ e)) _ _))
    isplitr; · iexact Hctx
    isplitl [Hs]; · iexact Hs
    first | iexact Hg0 | iexact Hg1
  iintro %u Hs
  iapply (wp_wand_r Idealize.ShloMosaic.frame (wpE ((K (F := F)).defs (D (F := F))) 𝒱 (T d) none) Set.univ)
  isplitl [Hs]
  · iapply (call1 κ (YA m) (YB m) d (W5 m d) rfl)
    isplitr; · iexact Hctx
    iexact Hs
  iintro %u Hs
  iapply (wp_wand_r Idealize.ShloMosaic.frame (wpE ((K (F := F)).defs (D (F := F))) 𝒱 (T d) none) Set.univ)
  isplitl [Hs]
  · iapply (line κ (YA m) (YB m) d 2 ops2 (fun op h => (hops2 op h).1) (fun op h => (hops2 op h).2) (W6 m d))
    isplitr; · iexact Hctx
    iexact Hs
  iintro %u ⟨Hst, Hb, Hh⟩
  isplitl [Hst]; · iexact Hst
  isplitl [Hh]; · iexact Hh
  isplitl [Hb] <;> iassumption

/-! ## The launch -/

/-- The launch element: the handshakes' rounds and the pipelines'. -/
def u₀ : UU := ((initOf (K (F := F)).hsCells (K (F := F)).hsToks, initOf (Pipeline.cells (Pipeline.pin (pcfgs (F := F)) adm) inj) (Pipeline.launchToks (Pipeline.pin (pcfgs (F := F)) adm) inj)), 1)

omit [FloatOps F] [Named F] in
theorem bigSep_emp' {I : Type} (s : Finset I) : (bigSep s fun _ => iprop(emp)) = (iprop(emp) : sProp 𝕄) := bigSep_emp_const s

theorem own_parts (a : UH) (b : UP) : (ownU ((a, b), (1 : Counters)) : sProp 𝕄) ⊢ iprop(BI.own (EH a) ∗ BI.own (EP b)) := by
  refine BI.Entails.trans (ownU_pair (a, b) (1 : Counters)) ?_
  refine BI.Entails.trans ?_ (own_pair_emb embL a b)
  show (iprop(BI.own (embL (a, b)) ∗ BI.own (embR (1 : Counters))) : sProp 𝕄) ⊢ _
  iintro ⟨H, -⟩
  iexact H

theorem ghosts_eq : (bigSep Finset.univ fun d : Dev nD => iprop(ghost (F := F) 0 d ∗ ghost 1 d) : sProp 𝕄)
    = iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c))) := by
  refine Eq.trans ?_ (BI.bigSep_sep _ _ _)
  refine bigSep_congr fun c _ => ?_
  refine Eq.trans ?_ (BI.bigSep_sep _ _ _)
  exact (BI.bigSep_fin_two (fun p : Fin 2 => (ghost (F := F) p c))).symm

theorem hu₀ : (ownU (u₀ (F := F)) : sProp 𝕄)
    ⊢ |={Set.univ}=> iprop(BI.own (EH (initOf (K (F := F)).hsCells (K (F := F)).hsToks)) ∗ (bigSep Finset.univ fun d : Dev nD => iprop(ghost (F := F) 0 d ∗ ghost 1 d))
        ∗ bigSep Finset.univ fun thr : Thread nD τ => bigSep Finset.univ fun q : Fin 2 => (P (YA m) (YB m)).x q thr) := by
  unfold u₀
  iintro Hu
  ihave H := (own_parts _ _) $$ Hu
  icases H with ⟨HH, HP⟩
  ihave >HP := (Pipeline.fund_ghost (Pipeline.pin (pcfgs (F := F)) adm) EP inj) $$ HP
  imodintro
  isplitl [HH]; · iexact HH
  isplitl [HP]
  · rw [ghosts_eq]; iexact HP
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-- The final memory at every unscoped buffer. -/
def fq (d : Dev nD) (s' : Phys nD τ sig (Elt F)) : Prop := ∀ b : DevRef τ sig, b ∈ ucRefs → s'.mem.mem (d, b) = W7 m d b

theorem hfin (d : Dev nD) (s' : Phys nD τ sig (Elt F)) : iprop(FIN m d ∗ SI s') ⊢ (⌜fq m d s'⌝ : sProp 𝕄) := by
  have hb : ∀ b : DevRef τ sig, b ∈ ucRefs → iprop(FIN m d ∗ SI s') ⊢ (⌜s'.mem.mem (d, b) = W7 m d b⌝ : sProp 𝕄) := fun b hb => by
    unfold FIN held
    rw [← Finset.insert_erase hb, SparseCore.bigSep_insert' (Finset.notMem_erase _ _)]
    iintro ⟨⟨Hx, -⟩, HSI⟩
    ihave H := (SI_pointsTo_agree (st := s') (ℓ := (d, b)) (I := Finset.univ) (q := fullShare) (f := W7 m d b)) $$ [HSI Hx]
    · isplitl [HSI] <;> iassumption
    icases H with %hx
    ipureintro; exact funext fun i => hx i (Finset.mem_univ i)
  refine (Laws.forall_intro fun b : {b : DevRef τ sig // b ∈ ucRefs} => hb b.1 b.2).trans (Laws.pure_forall.2.trans (Laws.pure_mono fun all b hb => all ⟨b, hb⟩))

/-- What the run settles: the unscoped buffers at `W7`, every semaphore at zero. -/
def QC : PUnit × MemSt nD τ sig (Elt F) → Prop := fun r =>
  (∀ (d : Dev nD) (b : DevRef τ sig), b ∈ ucRefs → r.2.mem (d, b) = W7 m d b) ∧ r.2.sem = fun _ => 0

theorem run_all [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (YA m) (YB m)) (A := ∅) facts v₀
    (fun q hq => match q with | 0 => nomatch hq | 1 => nomatch hq)
    (fun q _ => match q with | 0 => tileObl0 _ _ | 1 => tileObl1 _ _)
    (fun q _ => match q with | 0 => SparseCore.Cfg.VecSplit.of_plain (vecSplit0 _ _) | 1 => SparseCore.Cfg.VecSplit.of_plain (vecSplit1 _ _))
    m ρ main (fun d => iprop(ghost 0 d ∗ ghost 1 d)) (FIN m) (u₀ (F := F)) (sep_elim_left.trans (hu₀ m)) (hmain m ρ) (fq m) (hfin m) (QC m) (fun _ h hz => ⟨h, hz⟩)

end Cert.Proof

end
-- ==== Proof.Frames.lean ====
/-
  What the run leaves of the arguments, and the frames of the two printed kernels, both from the one run: the two programs
  differ in one constant's spelling, and over machine words that constant is its bits under either spelling.
-/
module

public import proofs.«01_k».proof.Defs
public import proofs.«01_k».proof.Proof.Main
public import proofs.«01_k».proof.Proof.Gen.Kernel
public import proofs.«01_k».proof.Proof.Gen.ReferenceIdeal.Run

@[expose] public section

noncomputable section

namespace Cert.Proof

open Cert.KernelIdeal Cert.KernelIdeal.Gen
open Idealize.ShloMosaic Idealize.SL.Sem Idealize.ShloMosaic.StableHlo

variable {F : FTy → Type} [FloatOps F] [Named F]
variable (m : (ℓ : Loc nD τ sig) → Buf (Elt F) ℓ) (ρ : Dev nD → PrngReg)

/-- The buffers that @main writes. -/
abbrev written : Finset (DevRef τ sig) :=
  {dr main_v0, dr main_v1, dr main_v2, dr main_v3, dr main_v4, dr main_v5, dr main_v6, dr main_v7, dr main_v8, dr main_v9, dr main_v10, dr main_v11, dr main_v12}

theorem wr0 (b : DevRef τ sig) (hb : b ∉ written) (op) (hop : op ∈ ops0 (F := F)) : b ∉ op.writes := by
  simp only [ops0, List.mem_cons, List.not_mem_nil, or_false] at hop
  rcases hop with rfl | rfl | rfl | rfl | rfl | rfl
  · exact fun h => hb ((show ({dr main_v0} : Finset (DevRef τ sig)) ⊆ written by decide) h)
  · exact fun h => hb ((show ({dr main_v1} : Finset (DevRef τ sig)) ⊆ written by decide) h)
  · exact fun h => hb ((show ({dr main_v2} : Finset (DevRef τ sig)) ⊆ written by decide) h)
  · exact fun h => hb ((show ({dr main_v3} : Finset (DevRef τ sig)) ⊆ written by decide) h)
  · exact fun h => hb ((show ({dr main_v4} : Finset (DevRef τ sig)) ⊆ written by decide) h)
  · exact fun h => hb ((show ({dr main_v5} : Finset (DevRef τ sig)) ⊆ written by decide) h)
theorem wr1 (b : DevRef τ sig) (hb : b ∉ written) (op) (hop : op ∈ ops1 (F := F)) : b ∉ op.writes := by
  simp only [ops1, List.mem_cons, List.not_mem_nil, or_false] at hop
  obtain rfl := hop
  exact fun h => hb ((show ({dr main_v8} : Finset (DevRef τ sig)) ⊆ written by decide) h)
theorem wr2 (b : DevRef τ sig) (hb : b ∉ written) (op) (hop : op ∈ ops2 (F := F)) : b ∉ op.writes := by
  simp only [ops2, List.mem_cons, List.not_mem_nil, or_false] at hop
  rcases hop with rfl | rfl
  · exact fun h => hb ((show ({dr main_v11} : Finset (DevRef τ sig)) ⊆ written by decide) h)
  · exact fun h => hb ((show ({dr main_v12} : Finset (DevRef τ sig)) ⊆ written by decide) h)

/-- A buffer that @main does not write ends as it began. -/
theorem W7_kept (d : Dev nD) (b : DevRef τ sig) (hb : b ∉ written) : W7 m d b = m (d, b) := by
  have ne : ∀ x ∈ written, b ≠ x := fun x hx e => hb (e ▸ hx)
  unfold W7; rw [after_of_forall_not_mem _ _ (wr2 b hb)]
  unfold W6; rw [Function.update_of_ne (ne _ (by decide))]
  unfold W5; rw [Function.update_of_ne (ne _ (by decide))]
  unfold W4; rw [after_of_forall_not_mem _ _ (wr1 b hb)]
  unfold W3; rw [Function.update_of_ne (ne _ (by decide))]
  unfold W2; rw [Function.update_of_ne (ne _ (by decide))]
  unfold W1; rw [after_of_forall_not_mem _ _ (wr0 b hb)]
  rfl

/-- The run: the result at the last valuation, the arguments as they were, every semaphore at zero. -/
theorem run_main [∀ e, Nonempty (Elt F e)] :
    θ_run (Cert.KernelIdeal.defs (F := F)) (Cert.KernelIdeal.threads (F := F)) ⟨m, fun _ => 0, ρ⟩ fun r =>
      (∀ c : Dev nD, r.2.mem ((c.tc : Thread nD τ).loc main_v12) = W7 m c (dr main_v12)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run _ _ _).mono (fun r h => ⟨fun c =>
    ⟨h.1 c (dr main_v12) (by decide),
     (h.1 c (dr main_arg0) (by decide)).trans (W7_kept m c _ (by decide)),
     (h.1 c (dr main_arg1) (by decide)).trans (W7_kept m c _ (by decide)),
     (h.1 c (dr main_arg2) (by decide)).trans (W7_kept m c _ (by decide)),
     (h.1 c (dr main_arg3) (by decide)).trans (W7_kept m c _ (by decide)),
     (h.1 c (dr main_arg4) (by decide)).trans (W7_kept m c _ (by decide))⟩, h.2⟩) (run_all m ρ)

theorem frame_kernelIdeal : Cert.quiescent_KernelIdeal := fun m ρ _ =>
  (θ_run _ _ _).mono (fun _ h => ⟨fun c => (h.1 c).2, h.2⟩) (run_main (F := Ideal) m ρ)

/-- Over machine words a named constant is its bits. -/
local instance namedBits : Named Bits where
  named _ _ φ w := FloatOps.ofBits φ w

/-- Over machine words the two programs' kernel bodies are the same, -/
theorem defs₀_bits : Cert.Kernel.defs₀ (F := Bits) = Cert.KernelIdeal.defs₀ (F := Bits) := by
  funext p l a
  match p, l, a with
  | .tc, 0, (t, s) => rfl
  | .tc, 1, _ => rfl
  | .tc, 2, (t, s) => rfl
  | .tc, 3, _ => rfl
  | .scScalar _, 0, _ => rfl
  | .scScalar _, 1, _ => rfl
  | .scScalar _, 2, _ => rfl
  | .scScalar _, 3, _ => rfl
  | .scVector c s, 0, _ => rfl
  | .scVector c s, 1, _ => rfl
  | .scVector c s, 2, _ => rfl
  | .scVector c s, 3, _ => rfl
/-- and so are their tables. -/
theorem defs_bits : Cert.Kernel.defs (F := Bits) = Cert.KernelIdeal.defs (F := Bits) :=
  congrArg (fun D => (Cert.KernelIdeal.sc (F := Bits)).defs (Pipeline.defs Cert.KernelIdeal.pcfgs D)) defs₀_bits

theorem frame_kernel : Cert.quiescent_Kernel := fun m ρ _ => by
  have h : θ_run (Cert.KernelIdeal.defs (F := Bits)) (Cert.KernelIdeal.threads (F := Bits)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
    (θ_run _ _ _).mono (fun _ h => ⟨fun c => (h.1 c).2, h.2⟩) (run_main (F := Bits) m ρ)
  rw [← defs_bits] at h
  exact h

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The named constant stands for −∞ on the reals' side. -/
theorem preserves : Cert.preserves_Kernel_KernelIdeal :=
  IdealRules.named_const.statement Cert.KernelIdeal.κ "neg" .f32 0xFF61B1E6#32 ⊥ rfl

/-- What the precondition's text takes of shapes. -/
instance preFacts : Cert.Pre_finite_router.Facts where
  bcast_S_S4x8192x768 := by decide
  reducesTo_S4x8192x768_S_d0_1_2 := by decide
  h_S_ := by decide
  bcast_S_S768x8 := by decide
  reducesTo_S768x8_S_d0_1 := by decide
  bcast_S_S8 := by decide
  reducesTo_S8_S_d0 := by decide

end Cert.Proof

end
-- ==== Proof.Row.lean ====
/-
  One row's arithmetic over the extended reals. `Top2 l i j` says that `i` is the first position of the largest of eight
  numbers and `j` the first position of the largest of the rest. Under finite logits the kernel's lane is the mean of the two
  chosen experts' outputs weighted by `exp (l i - l i)` and `exp (l j - l i)`.
-/
module

public import proofs.«01_k».proof.Proof.Lane
public import Idealize.ShloMosaic.Lib.Pointwise

@[expose] public section

noncomputable section

namespace Cert.Proof

open Cert.KernelIdeal Idealize.ShloMosaic

/-- Position `a` comes before position `b` in the descending stable order of the numbers `l`. -/
def Before {n : ℕ} (l : Fin n → EReal) (a b : Fin n) : Prop := l b < l a ∨ (l b = l a ∧ a < b)

/-- The first two positions in that order. -/
structure Top2 (l : Fin 8 → EReal) (i j : Fin 8) : Prop where
  ne : j ≠ i
  fst : ∀ e, e ≠ i → Before l i e
  snd : ∀ e, e ≠ i → e ≠ j → Before l j e

/-! ## The constants and the operations -/

theorem one_eq : (one : Ideal .f32) = (1 : EReal) := by
  simp only [one, Scalar.ofBits]
  exact Ideal.ofBits_one_f32

theorem zero_eq : (zero : Ideal .f32) = (0 : EReal) := by
  simp only [zero, Scalar.ofBits]
  exact Ideal.ofBits_zero_f32

theorem neg_eq : (neg : Ideal .f32) = (⊥ : EReal) := rfl

/-- A mark: one where `p` holds, else zero. -/
def mark (p : Prop) [Decidable p] : EReal := if p then 1 else 0

theorem select_oeq (a b : Ideal .f32) : Scalar.select (FloatOps.cmpf .oeq a b) (one : Ideal .f32) zero = mark (a = b) := by
  rw [one_eq, zero_eq]
  show Scalar.select (Ideal.cmp .oeq a b) (1 : EReal) 0 = _
  unfold Scalar.select Ideal.cmp mark
  by_cases h : a = b <;> simp [h]

theorem max_mark (p q : Prop) [Decidable p] [Decidable q] : max (mark p) (mark q) = mark (p ∨ q) := by
  unfold mark
  by_cases p <;> by_cases q <;> simp [*]

theorem mark_mul_sub (p q : Prop) [Decidable p] [Decidable q] : mark p * (1 - mark q) = mark (p ∧ ¬ q) := by
  have h11 : (1 : EReal) - 1 = 0 := by
    rw [← EReal.coe_one, ← EReal.coe_sub]; simp
  unfold mark
  by_cases p <;> by_cases q <;> simp [*]

theorem mark_congr {p q : Prop} [Decidable p] [Decidable q] (h : p ↔ q) : mark p = mark q := by
  unfold mark; simp only [h]

open Classical in
/-- The first of the marks of `p`, kept: the mark of "the first position at which `p` holds". -/
theorem first_mark (p : Fin 8 → Prop) [DecidablePred p] (e : Fin 8) :
    first (F := Ideal) (fun e => mark (p e)) e = mark (p e ∧ ∀ k, k < e → ¬ p k) := by
  have hs : ∀ n : ℕ, n < 8 → seen (F := Ideal) (fun e => mark (p e)) n = mark (∃ k : Fin 8, k.val ≤ n ∧ p k) := by
    intro n
    induction n with
    | zero => intro _; refine mark_congr ⟨fun h => ⟨0, le_refl _, h⟩, fun ⟨k, hk, h⟩ => ?_⟩
              rwa [show k = 0 from Fin.ext (Nat.le_zero.mp hk)] at h
    | succ n ih =>
      intro hn
      show max (seen (F := Ideal) (fun e => mark (p e)) n) (mark (p (Fin.ofNat 8 (n + 1)))) = _
      rw [ih (by omega), max_mark]
      have hv : (Fin.ofNat 8 (n + 1)).val = n + 1 := Nat.mod_eq_of_lt hn
      refine mark_congr ⟨fun h => ?_, fun ⟨k, hk, h⟩ => ?_⟩
      · rcases h with ⟨k, hk, h⟩ | h
        · exact ⟨k, by omega, h⟩
        · exact ⟨_, hv.le, h⟩
      · by_cases hk' : k.val ≤ n
        · exact .inl ⟨k, hk', h⟩
        · exact .inr (by rwa [show Fin.ofNat 8 (n + 1) = k from Fin.ext (by omega)])
  have step : ∀ (e : Fin 8) (n : ℕ), e.val = n + 1 →
      mark (p e) * ((1 : EReal) - seen (F := Ideal) (fun e => mark (p e)) n) = mark (p e ∧ ∀ k, k < e → ¬ p k) := by
    intro e n he
    rw [hs n (by have := e.isLt; omega), mark_mul_sub]
    refine mark_congr (and_congr_right fun _ => ?_)
    refine ⟨fun h k hk hp => h ⟨k, by have : k.val < e.val := hk; omega, hp⟩, fun h ⟨k, hk, hp⟩ => h k (show k.val < e.val by omega) hp⟩
  have step' : ∀ (e : Fin 8) (n : ℕ), e.val = n + 1 →
      FloatOps.mulf (F := Ideal) (φ := .f32) (mark (p e)) (FloatOps.subf one (seen (F := Ideal) (fun e => mark (p e)) n)) = mark (p e ∧ ∀ k, k < e → ¬ p k) := by
    intro e n he
    rw [one_eq]; exact step e n he
  match e with
  | 0 => exact mark_congr ⟨fun h => ⟨h, fun k hk => absurd hk (Fin.not_lt_zero k)⟩, fun h => h.1⟩
  | 1 => exact step' 1 0 rfl
  | 2 => exact step' 2 1 rfl
  | 3 => exact step' 3 2 rfl
  | 4 => exact step' 4 3 rfl
  | 5 => exact step' 5 4 rfl
  | 6 => exact step' 6 5 rfl
  | 7 => exact step' 7 6 rfl

/-- The largest of eight numbers is one that bounds them all. -/
theorem top_eq (l : Fin 8 → EReal) (i : Fin 8) (h : ∀ e, l e ≤ l i) : top (F := Ideal) l = l i := by
  show max (max (max (max (max (max (max (l 0) (l 1)) (l 2)) (l 3)) (l 4)) (l 5)) (l 6)) (l 7) = l i
  refine le_antisymm (by simp only [max_le_iff]; exact ⟨⟨⟨⟨⟨⟨⟨h 0, h 1⟩, h 2⟩, h 3⟩, h 4⟩, h 5⟩, h 6⟩, h 7⟩) ?_
  fin_cases i <;> simp

theorem hit_eq (l : Fin 8 → EReal) (i : Fin 8) (h : ∀ e, l e ≤ l i) : hit (F := Ideal) l = fun e => mark (l e = l i) := by
  funext e
  unfold hit
  rw [top_eq l i h]
  exact select_oeq _ _

theorem sum8_eq (w : Fin 8 → EReal) : sum8 (F := Ideal) w = ∑ e, w e := by
  unfold sum8
  rw [zero_eq]
  show (0 : EReal) + w 0 + w 1 + w 2 + w 3 + w 4 + w 5 + w 6 + w 7 = _
  rw [zero_add, Fin.sum_univ_eight]

theorem Before.le {n : ℕ} {l : Fin n → EReal} {a b : Fin n} (h : Before l a b) : l b ≤ l a := by
  rcases h with h | ⟨h, -⟩
  · exact h.le
  · exact h.le

section lane
variable {l : Fin 8 → EReal} {i j : Fin 8} (t : Top2 l i j)
include t

theorem Top2.le (e : Fin 8) : l e ≤ l i := by
  by_cases h : e = i
  · rw [h]
  · exact (t.fst e h).le

/-- The first mark of the largest is at `i`. -/
theorem first_hit (e : Fin 8) : first (F := Ideal) (hit (F := Ideal) l) e = mark (e = i) := by
  classical
  rw [hit_eq l i t.le, first_mark (fun e => l e = l i) e]
  refine mark_congr ⟨fun ⟨h, hk⟩ => ?_, fun h => ⟨by rw [h], fun k hk hp => ?_⟩⟩
  · by_contra hne
    rcases t.fst e hne with h' | ⟨-, h'⟩
    · exact absurd h h'.ne
    · exact hk i h' rfl
  · subst h
    rcases t.fst k hk.ne with h' | ⟨-, h'⟩
    · exact absurd hp h'.ne
    · exact absurd h' hk.asymm

variable (hl : ∀ e, l e ≠ ⊥)
include hl

theorem masked_eq (e : Fin 8) : masked (F := Ideal) l e = if e = i then ⊥ else l e := by
  unfold masked
  rw [first_hit t, neg_eq]
  show l e + mark (e = i) * ⊥ = _
  unfold mark
  split
  · rw [one_mul, EReal.add_bot]
  · rw [zero_mul, add_zero]

theorem first_hit_masked (e : Fin 8) : first (F := Ideal) (hit (F := Ideal) (masked (F := Ideal) l)) e = mark (e = j) := by
  classical
  have hm : masked (F := Ideal) l = fun e => if e = i then ⊥ else l e := funext fun e => masked_eq t hl e
  have hj : masked (F := Ideal) l j = l j := by rw [hm]; simp [t.ne]
  have hle : ∀ e, masked (F := Ideal) l e ≤ masked (F := Ideal) l j := by
    intro e
    rw [hj, hm]
    dsimp only
    split
    · exact bot_le
    · rename_i h
      by_cases h' : e = j
      · rw [h']
      · exact (t.snd e h h').le
  rw [hit_eq _ j hle, first_mark (fun e => masked (F := Ideal) l e = masked (F := Ideal) l j) e]
  have key : ∀ e, masked (F := Ideal) l e = masked (F := Ideal) l j → e ≠ i ∧ l e = l j := by
    intro e he
    rw [hj, hm] at he
    dsimp only at he
    split at he
    · exact absurd he.symm (hl j)
    · exact ⟨‹_›, he⟩
  refine mark_congr ⟨fun ⟨h, hk⟩ => ?_, fun h => ⟨by rw [h], fun k hk hp => ?_⟩⟩
  · by_contra hne
    obtain ⟨hi, he⟩ := key e h
    rcases t.snd e hi hne with h' | ⟨-, h'⟩
    · exact absurd he h'.ne
    · exact hk j h' rfl
  · subst h
    obtain ⟨hi, he⟩ := key k hp
    rcases t.snd k hi hk.ne with h' | ⟨-, h'⟩
    · exact absurd he h'.ne
    · exact absurd h' hk.asymm

/-- A chosen expert's weight; the others have none. -/
theorem weight_eq (e : Fin 8) :
    weight (F := Ideal) l e = if e = i then Ideal.exp (l i - l i) else if e = j then Ideal.exp (l j - l i) else 0 := by
  unfold weight
  rw [first_hit t, first_hit_masked t hl, top_eq l i t.le]
  show (mark (e = i) + mark (e = j)) * Ideal.exp (l e - l i) = _
  unfold mark
  by_cases h : e = i
  · subst h; simp [t.ne.symm]
  · by_cases h' : e = j
    · subst h'; simp [h]
    · simp [h, h']

/-- A sum over the experts of what only the two chosen ones have. -/
theorem sum_two (f : Fin 8 → EReal) (a b : EReal) (hi : f i = a) (hj : f j = b) (h0 : ∀ e, e ≠ i → e ≠ j → f e = 0) : ∑ e, f e = a + b := by
  rw [← Finset.sum_subset (Finset.subset_univ {i, j}) (fun e _ he => by
    simp only [Finset.mem_insert, Finset.mem_singleton, not_or] at he
    exact h0 e he.1 he.2), Finset.sum_pair t.ne.symm, hi, hj]

/-- The kernel's lane: the weighted mean of the two chosen experts' outputs. -/
theorem mix_eq (z : Fin 8 → EReal) :
    mix (F := Ideal) l z = Ideal.div (Ideal.exp (l i - l i) * Ideal.logistic (z i) + Ideal.exp (l j - l i) * Ideal.logistic (z j))
      (Ideal.exp (l i - l i) + Ideal.exp (l j - l i)) := by
  have hs : ∀ x : EReal, sigm (F := Ideal) x = Ideal.logistic x := by
    intro x
    unfold sigm
    rw [one_eq, zero_eq]
    show Ideal.div 1 (1 + Ideal.exp (0 - x)) = _
    rw [zero_sub]; rfl
  unfold mix
  rw [sum8_eq, sum8_eq]
  show Ideal.div (∑ e, weight (F := Ideal) l e * sigm (F := Ideal) (z e)) (∑ e, weight (F := Ideal) l e) = _
  congr 1
  · refine sum_two t hl _ _ _ ?_ ?_ ?_
    · rw [weight_eq t hl, if_pos rfl, hs]
    · rw [weight_eq t hl, if_neg t.ne, if_pos rfl, hs]
    · intro e h h'; rw [weight_eq t hl, if_neg h, if_neg h', zero_mul]
  · refine sum_two t hl _ _ _ ?_ ?_ ?_
    · rw [weight_eq t hl, if_pos rfl]
    · rw [weight_eq t hl, if_neg t.ne, if_pos rfl]
    · intro e h h'; rw [weight_eq t hl, if_neg h, if_neg h']

end lane

end Cert.Proof

end
-- ==== Proof.RefVal.lean ====
/-
  The reference's result at an index: its top-2 as the first two positions of the stable descending order, the softmax of
  their logits spread over the eight experts, and the sum against the experts' outputs.
-/
module

public import proofs.«01_k».proof.Proof.Row
public import proofs.«01_k».proof.Proof.Gen.ReferenceIdeal.Run
public import Idealize.ShloMosaic.Lib.SortFacts

@[expose] public section

noncomputable section

namespace Cert.Proof.Ref

open Cert.ReferenceIdeal Cert.ReferenceIdeal.Gen Idealize.ShloMosaic

/-! ## The stable descending order -/

/-- Position `a` is sorted before position `b` when its number is larger. -/
abbrev gt {n : ℕ} (l : Fin n → EReal) (a b : Fin n) : Bool := FloatOps.cmpfTotal (F := Ideal) (φ := .f32) .gt (l a) (l b) == 1#1

theorem gt_iff {n : ℕ} (l : Fin n → EReal) (a b : Fin n) : gt l a b = true ↔ l b < l a := by
  show (Ideal.cmp .ogt (l a) (l b) == 1#1) = true ↔ _
  unfold Ideal.cmp
  by_cases h : l b < l a <;> simp [h]

theorem Before.trans {n : ℕ} {l : Fin n → EReal} {a b c : Fin n} (h : Before l a b) (h' : Before l b c) : Before l a c := by
  rcases h with h | ⟨h, k⟩ <;> rcases h' with h' | ⟨h', k'⟩
  · exact .inl (h'.trans h)
  · exact .inl (h' ▸ h)
  · exact .inl (h ▸ h')
  · exact .inr ⟨h'.trans h, k.trans k'⟩

theorem insert_pairwise {n : ℕ} (l : Fin n → EReal) (a : Fin n) (L : List (Fin n)) (hL : L.Pairwise (Before l)) (ha : ∀ b ∈ L, a < b) :
    (insertBefore (gt l) a L).Pairwise (Before l) := by
  induction L with
  | nil => exact List.pairwise_singleton _ _
  | cons b L ih =>
    rw [List.pairwise_cons] at hL
    unfold insertBefore
    split
    · rename_i h
      refine List.pairwise_cons.mpr ⟨fun c hc => ?_, ih hL.2 fun c hc => ha c (List.mem_cons_of_mem _ hc)⟩
      rcases List.mem_cons.mp ((perm_insertBefore _ a L).mem_iff.mp hc) with rfl | hc'
      · exact .inl ((gt_iff l _ _).mp h)
      · exact hL.1 c hc'
    · rename_i h
      have hab : Before l a b := by
        rcases lt_or_eq_of_le (not_lt.mp fun h' => h ((gt_iff l _ _).mpr h')) with h' | h'
        · exact .inl h'
        · exact .inr ⟨h', ha b (List.mem_cons_self)⟩
      refine List.pairwise_cons.mpr ⟨fun c hc => ?_, List.pairwise_cons.mpr hL⟩
      rcases List.mem_cons.mp hc with rfl | hc'
      · exact hab
      · exact Before.trans hab (hL.1 c hc')

theorem sort_pairwise {n : ℕ} (l : Fin n → EReal) (L : List (Fin n)) (hL : L.Pairwise (· < ·)) : (stableSort (gt l) L).Pairwise (Before l) := by
  induction L with
  | nil => exact List.Pairwise.nil
  | cons a L ih =>
    rw [List.pairwise_cons] at hL
    unfold stableSort
    exact insert_pairwise l a _ (ih hL.2) fun b hb => hL.1 b ((perm_stableSort _ L).mem_iff.mp hb)

theorem sorted_before {n : ℕ} (l : Fin n → EReal) (a b : Fin n) (h : a < b) : Before l (sortedFrom (gt l) a) (sortedFrom (gt l) b) := by
  have hp := List.pairwise_iff_get.mp (sort_pairwise l (List.finRange n) (List.pairwise_lt_finRange n))
  exact hp (a.cast (length_sortPositions n (gt l)).symm) (b.cast (length_sortPositions n (gt l)).symm) h

/-- The sort's first two positions are the top two. -/
theorem top2_sorted (l : Fin 8 → EReal) : Top2 l (sortedFrom (gt l) 0) (sortedFrom (gt l) 1) where
  ne h := absurd (sortedFrom_injective _ h) (by decide)
  fst e he := by
    obtain ⟨k, rfl⟩ := sortedFrom_surjective (gt l) e
    exact sorted_before l 0 k (Fin.pos_of_ne_zero fun h => he (by rw [h]))
  snd e he he' := by
    obtain ⟨k, rfl⟩ := sortedFrom_surjective (gt l) e
    refine sorted_before l 1 k (lt_of_le_of_ne ?_ fun h => he' (by rw [h]))
    have : k ≠ 0 := fun h => he (by rw [h])
    show 1 ≤ k.val
    exact Nat.pos_of_ne_zero fun h => this (Fin.ext h)

/-! ## The top-2 at an index -/

/-- Row `(b, s)` of a 4 × 8192 × 8 array. -/
abbrev row (x : S4x8192x8.Idx → EReal) (b : Fin 4) (s : Fin 8192) : Fin 8 → EReal := fun e => x (ix3 b s e)

/-- The position along the experts' axis that the slice of two reads, replaced by `e`. -/
theorem along_ix3 (J : S4x8192x8.Idx) (b : Fin 4) (s : Fin 8192) (k e : Fin 8) (hJ : J = ix3 b s k) :
    J.along (2 : Fin 3) e = ix3 b s e := by
  subst hJ
  funext a
  fin_cases a <;> rfl

/-- The sort's result along the experts, at rank `k`: of any array `y` carried with the logits. -/
theorem sort_at {β : Type} (x : S4x8192x8.Idx → EReal) (y : S4x8192x8.Idx → β) (b : Fin 4) (s : Fin 8192) (k : Fin 8)
    (J : S4x8192x8.Idx) (hJ : J = ix3 b s k) :
    y (J.along (2 : Fin 3) (sortedFrom (fun k k' => FloatOps.cmpfTotal (F := Ideal) (φ := .f32) .gt (x (J.along (2 : Fin 3) k)) (x (J.along (2 : Fin 3) k')) == 1#1) (J (2 : Fin 3))))
      = y (ix3 b s (sortedFrom (gt (row x b s)) k)) := by
  have h : ∀ e : Fin 8, J.along (2 : Fin 3) e = ix3 b s e := fun e => along_ix3 J b s k e hJ
  have hk : J (2 : Fin 3) = k := by subst hJ; rfl
  refine (congrArg y (h _)).trans ?_
  rw [hk]
  have hg : (fun k k' : Fin 8 => FloatOps.cmpfTotal (F := Ideal) (φ := .f32) .gt (x (J.along (2 : Fin 3) k)) (x (J.along (2 : Fin 3) k')) == 1#1)
      = gt (row x b s) := by
    funext a a'
    rw [h a, h a']
  exact congrArg (fun g => y (ix3 b s (sortedFrom g k))) hg

/-- Rank `k`'s logit. -/
theorem topK_val (x : S4x8192x8.Idx → EReal) (b : Fin 4) (s : Fin 8192) (k : Fin 2) :
    (Host.topK S4x8192x2 2 (FloatOps.cmpfTotal (F := Ideal) (φ := .f32) .gt) x sliceFits_S4x8192x8_S4x8192x2).1 (ix3 b s k)
      = row x b s (sortedFrom (gt (row x b s)) (k.castLE (by omega))) := by
  refine sort_at x x b s (k.castLE (by omega)) _ ?_
  funext a
  fin_cases a <;> exact Fin.ext (Nat.zero_add _)

/-- Rank `k`'s expert, as a word. -/
theorem topK_idx (x : S4x8192x8.Idx → EReal) (b : Fin 4) (s : Fin 8192) (k : Fin 2) :
    (Host.topK S4x8192x2 2 (FloatOps.cmpfTotal (F := Ideal) (φ := .f32) .gt) x sliceFits_S4x8192x8_S4x8192x2).2 (ix3 b s k)
      = BitVec.ofNat 32 (sortedFrom (gt (row x b s)) (k.castLE (by omega))).val := by
  refine (sort_at x (iotaInDim S4x8192x8 32 (2 : Fin 3)) b s (k.castLE (by omega)) _ ?_).trans rfl
  funext a
  fin_cases a <;> exact Fin.ext (Nat.zero_add _)

/-! ## A row's softmax over two -/

/-- An expert's output is a real number, whatever its pre-activation. -/
theorem logistic_real (z : EReal) : ∃ r : ℝ, Ideal.logistic z = r := by
  unfold Ideal.logistic
  induction z with
  | bot =>
    refine ⟨0, ?_⟩
    rw [EReal.neg_bot, Ideal.exp_top, EReal.add_top_of_ne_bot (by decide)]
    simp [Ideal.div]
  | top =>
    refine ⟨1, ?_⟩
    rw [EReal.neg_top, Ideal.exp_bot, add_zero]
    simp [Ideal.div]
  | coe r =>
    refine ⟨1 / (1 + Real.exp (-r)), ?_⟩
    have h : (1 : ℝ) + Real.exp (-r) ≠ 0 := by positivity
    rw [← EReal.coe_neg, Ideal.exp_coe, ← EReal.coe_one, ← EReal.coe_add, Ideal.div_coe h, ← EReal.coe_mul, one_mul]

theorem fold_two (v : Fin 2 → EReal) : Finset.fold max ⊥ v Finset.univ = max (v 0) (v 1) := by
  rw [show (Finset.univ : Finset (Fin 2)) = {0, 1} from rfl, Finset.fold_insert (by decide), Finset.fold_singleton, max_bot_right]

/-- The reference's row from the two chosen experts' positions `q` and logits `v`: the same weighted mean. -/
theorem row_eq {l : Fin 8 → EReal} {i j : Fin 8} (t : Top2 l i j) (hl : ∀ e, l e ≠ ⊥) (hl' : ∀ e, l e ≠ ⊤) (z : Fin 8 → EReal)
    (q : Fin 2 → BitVec 32) (v : Fin 2 → EReal) (hv0 : v 0 = l i) (hv1 : v 1 = l j)
    (hq0 : q 0 = BitVec.ofNat 32 i.val) (hq1 : q 1 = BitVec.ofNat 32 j.val) :
    ∑ e : Fin 8, Ideal.logistic (z e) * ∑ k : Fin 2,
        FloatOps.uitofp (F := Ideal) FTy.f32 (IntOp.cmpi CmpIPredicate.eq (q k) (BitVec.ofNat 32 e.val))
          * Ideal.div (Ideal.exp (v k - max ⊥ (Finset.fold max ⊥ v Finset.univ))) (∑ k, Ideal.exp (v k - max ⊥ (Finset.fold max ⊥ v Finset.univ)))
      = mix (F := Ideal) l z := by
  rw [mix_eq t hl]
  have hM : max ⊥ (Finset.fold max ⊥ v Finset.univ) = l i := by
    rw [fold_two, hv0, hv1, max_bot_left, max_eq_left (t.le j)]
  have hc : ∀ (a e : Fin 8), FloatOps.uitofp (F := Ideal) FTy.f32 (IntOp.cmpi CmpIPredicate.eq (BitVec.ofNat 32 a.val) (BitVec.ofNat 32 e.val)) = mark (e = a) := by
    intro a e
    have : (BitVec.ofNat 32 a.val = BitVec.ofNat 32 e.val) ↔ e = a := by
      revert a e; decide
    show (((IntOp.cmpi CmpIPredicate.eq (BitVec.ofNat 32 a.val) (BitVec.ofNat 32 e.val)).toNat : ℝ) : EReal) = _
    unfold mark IntOp.cmpi
    by_cases h : e = a
    · subst h; simp
    · have := mt this.mp h; simp [h, this]
  simp only [hM, Fin.sum_univ_two, hq0, hq1, hv0, hv1, hc]
  obtain ⟨a, ha⟩ := logistic_real (z i)
  obtain ⟨b, hb⟩ := logistic_real (z j)
  lift l i to ℝ using ⟨hl' i, hl i⟩ with r hr
  lift l j to ℝ using ⟨hl' j, hl j⟩ with w hw
  have hne : Real.exp (r - r) + Real.exp (w - r) ≠ 0 := by positivity
  rw [← EReal.coe_sub, ← EReal.coe_sub, Ideal.exp_coe, Ideal.exp_coe, ← EReal.coe_add, Ideal.div_coe hne, Ideal.div_coe hne, Ideal.div_coe hne,
    ha, hb]
  refine (sum_two t hl _ (((a * (Real.exp (r - r) * (1 / (Real.exp (r - r) + Real.exp (w - r))))) : ℝ) : EReal)
    (((b * (Real.exp (w - r) * (1 / (Real.exp (r - r) + Real.exp (w - r))))) : ℝ) : EReal) ?_ ?_ ?_).trans ?_
  · simp [mark, t.ne.symm, ha]
  · simp [mark, t.ne, hb]
  · intro e h h'; simp [mark, h, h']
  · norm_cast
    ring

/-- Minus infinity's word. -/
theorem ofBits_neg_inf : Ideal.ofBits FTy.f32 4286578688#32 = (⊥ : EReal) := by
  simp [Ideal.ofBits, Ideal.ieee]

/-! ## The result -/

/-- The router's logit of expert `e` at row `(b, s)`. -/
def logit (x : S4x8192x768.Idx → EReal) (wc : S768x8.Idx → EReal) (bc : S8.Idx → EReal) (b : Fin 4) (s : Fin 8192) (e : Fin 8) : EReal :=
  (∑ k : Fin 768, x (ix3 b s k) * wc (ix2 k e)) + bc (ix1 e)

/-- Expert `e`'s pre-activation at row `(b, s)`. -/
def preact (x : S4x8192x768.Idx → EReal) (we : S8x768.Idx → EReal) (be : S8.Idx → EReal) (b : Fin 4) (s : Fin 8192) (e : Fin 8) : EReal :=
  (∑ k : Fin 768, x (ix3 b s k) * we (ix2 e k)) + be (ix1 e)

variable (m : (ℓ : Loc nD τ sig) → Buf (Elt Ideal) ℓ) (c : Dev nD)

/-- The reference's result at row `(b, s)` is the mix of its logits and pre-activations. -/
theorem res_apply (b : Fin 4) (s : Fin 8192)
    (hb : ∀ e, logit (m (c.tc.loc main_arg0)) (m (c.tc.loc main_arg1)) (m (c.tc.loc main_arg2)) b s e ≠ ⊥)
    (ht : ∀ e, logit (m (c.tc.loc main_arg0)) (m (c.tc.loc main_arg1)) (m (c.tc.loc main_arg2)) b s e ≠ ⊤) :
    (Value.res_main_v32 (F := Ideal) m c (ix3 b s 0) : EReal)
      = mix (F := Ideal) (logit (m (c.tc.loc main_arg0)) (m (c.tc.loc main_arg1)) (m (c.tc.loc main_arg2)) b s)
          (preact (m (c.tc.loc main_arg0)) (m (c.tc.loc main_arg3)) (m (c.tc.loc main_arg4)) b s) := by
  unfold Value.res_main_v32
  generalize (m (c.tc.loc main_arg0) : S4x8192x768.Idx → EReal) = X at *
  generalize (m (c.tc.loc main_arg1) : S768x8.Idx → EReal) = Wc at *
  generalize (m (c.tc.loc main_arg2) : S8.Idx → EReal) = Bc at *
  generalize (m (c.tc.loc main_arg3) : S8x768.Idx → EReal) = We at *
  generalize (m (c.tc.loc main_arg4) : S8.Idx → EReal) = Be at *
  generalize hx : addf (F := Ideal) (φ := .f32)
        (Host.dotGeneral (F := Ideal) (φ₁ := .f32) (φ₂ := .f32) dot_S4x8192x768_S768x8_S4x8192x8_2_0_01_1_n_n none X Wc)
        (broadcastInDim S4x8192x8 ![0, 1, 2] bcast_S1x1x8_S4x8192x8_0_1_2
          (broadcastInDim S1x1x8 ![2] bcast_S8_S1x1x8_2 Bc)) = x
  have hrow : row x b s = logit X Wc Bc b s := by
    funext e
    unfold logit row
    rw [← hx]
    pointwise
  generalize hT : Host.topK S4x8192x2 2 _ _ _ = T
  pointwise
  have hbot : Ideal.ofBits FTy.f32 4286578688#32 = (⊥ : EReal) := ofBits_neg_inf
  rw [hbot]
  refine Eq.trans ?_ (row_eq (top2_sorted _) hb ht _ (fun k => T.2 (ix3 b s k)) (fun k => T.1 (ix3 b s k)) ?_ ?_ ?_ ?_)
  · rfl
  · rw [← hT, ← hrow]; exact topK_val x b s 0
  · rw [← hT, ← hrow]; exact topK_val x b s 1
  · rw [← hT, ← hrow]; exact topK_idx x b s 0
  · rw [← hT, ← hrow]; exact topK_idx x b s 1

end Cert.Proof.Ref

end
-- ==== Proof.KerVal.lean ====
/-
  The kernel's result at an index: the mix of the row's logits and pre-activations.
-/
module

public import proofs.«01_k».proof.Proof.Main
public import proofs.«01_k».proof.Proof.RefVal

@[expose] public section

noncomputable section

namespace Cert.Proof

open Cert.KernelIdeal Cert.KernelIdeal.Gen Idealize.ShloMosaic
open Idealize.ShloMosaic.StableHlo
open Cert.Proof.Ref (logit preact)

/-! ## The projection at an index -/

/-- A row of 4096 at column `e`: the row against the column of the weights, and the column's bias. -/
theorem pay_apply (X : S4096x768.Idx → EReal) (W : S768x16.Idx → EReal) (b : S1x16.Idx → EReal) (e : Fin 16) (r : Fin 4096) :
    (k0_pay1 (F := Ideal) X W b (ix2 e r) : EReal) = (∑ k : Fin 768, X (ix2 r k) * W (ix2 k e)) + b (ix2 0 e) := by
  unfold k0_pay1
  pointwise

theorem proj_apply (X : S16384x768.Idx → EReal) (W : S768x16.Idx → EReal) (b : S1x16.Idx → EReal) (e : Fin 16) (r : Fin 16384) :
    (proj0 (F := Ideal) X W b (ix2 e r) : EReal) = (∑ k : Fin 768, X (ix2 r k) * W (ix2 k e)) + b (ix2 0 e) := by
  unfold proj0
  refine (pay_apply _ W b e _).trans ?_
  congr 1
  refine Finset.sum_congr rfl fun k _ => ?_
  congr 1
  refine congrArg X (funext fun a => ?_)
  fin_cases a
  · exact Fin.ext (Nat.div_add_mod r.val 4096)
  · rfl

/-! ## The operands at an index -/

/-- The 32768 rows of the input. -/
abbrev rows (X : S4x8192x768.Idx → EReal) : S32768x768.Idx → EReal := shapeCast (α := EReal) S32768x768 X shapeCasts_S4x8192x768_S32768x768
/-- The first half of them. -/
abbrev rowsA (X : S4x8192x768.Idx → EReal) : S16384x768.Idx → EReal :=
  extractStridedSlice S16384x768 ![0, 0] (rows X) slices_S32768x768_S16384x768_0_0
/-- The second half of them. -/
abbrev rowsB (X : S4x8192x768.Idx → EReal) : S16384x768.Idx → EReal :=
  extractStridedSlice S16384x768 ![16384, 0] (rows X) slices_S32768x768_S16384x768_16384_0
/-- The router's and the experts' weights, side by side. -/
abbrev weights (Wc : S768x8.Idx → EReal) (We : S8x768.Idx → EReal) : S768x16.Idx → EReal :=
  concatenate S768x16 1 [⟨S768x8, Wc⟩, ⟨S768x8, transpose S768x8 [1, 0] We transposes_S8x768_S768x8_1_0⟩] concatenates_S768x8_S768x8_S768x16_d1
/-- Their biases. -/
abbrev biases (bc be : S8.Idx → EReal) : S1x16.Idx → EReal :=
  shapeCast (α := EReal) S1x16 (concatenate S16 0 [⟨S8, bc⟩, ⟨S8, be⟩] concatenates_S8_S8_S16_d0) shapeCasts_S16_S1x16
/-- The two halves' results, as the result's array. -/
abbrev joined (A B : S16384.Idx → EReal) : S4x8192x1.Idx → EReal :=
  shapeCast (α := EReal) S4x8192x1 (concatenate S32768 0 [⟨S16384, A⟩, ⟨S16384, B⟩] concatenates_S16384_S16384_S32768_d0) shapeCasts_S32768_S4x8192x1

theorem rowsA_apply (X : S4x8192x768.Idx → EReal) (b : Fin 4) (s : Fin 8192) (r : Fin 16384) (h : r.val = b.val * 8192 + s.val) (k : Fin 768) :
    rowsA X (ix2 r k) = X (ix3 b s k) := by
  have hs := s.isLt
  unfold rowsA rows
  pointwise
  congr 2 <;> exact Fin.ext (by dsimp only; omega)

theorem rowsB_apply (X : S4x8192x768.Idx → EReal) (b : Fin 4) (s : Fin 8192) (r : Fin 16384) (h : 16384 + r.val = b.val * 8192 + s.val) (k : Fin 768) :
    rowsB X (ix2 r k) = X (ix3 b s k) := by
  have hs := s.isLt
  unfold rowsB rows
  pointwise
  congr 2 <;> exact Fin.ext (by dsimp only; omega)

theorem weights_router (Wc : S768x8.Idx → EReal) (We : S8x768.Idx → EReal) (k : Fin 768) (e : Fin 8) :
    weights Wc We (ix2 k (e.castLE (by omega))) = Wc (ix2 k e) := by
  unfold weights
  pointwise
  rw [dif_pos (show ((e.castLE (by omega) : Fin 16)).val < 8 from e.isLt)]
  rfl

theorem weights_expert (Wc : S768x8.Idx → EReal) (We : S8x768.Idx → EReal) (k : Fin 768) (e : Fin 8) :
    weights Wc We (ix2 k (e.natAdd 8)) = We (ix2 e k) := by
  unfold weights
  pointwise
  rw [dif_neg (show ¬ (e.natAdd 8).val < 8 from by simp)]
  congr 2
  exact Fin.ext (by simp)

theorem biases_router (bc be : S8.Idx → EReal) (e : Fin 8) : biases bc be (ix2 0 (e.castLE (by omega))) = bc (ix1 e) := by
  unfold biases
  pointwise
  rw [dif_pos (show ((e.castLE (by omega) : Fin 16)).val < 8 from e.isLt)]
  rfl

theorem biases_expert (bc be : S8.Idx → EReal) (e : Fin 8) : biases bc be (ix2 0 (e.natAdd 8)) = be (ix1 e) := by
  unfold biases
  pointwise
  rw [dif_neg (show ¬ (e.natAdd 8).val < 8 from by simp)]
  congr 2
  exact Fin.ext (by simp)

/-- A row routed: the mix of its logits and pre-activations, wherever the rows `R` hold it. -/
theorem route_apply (X : S4x8192x768.Idx → EReal) (R : S16384x768.Idx → EReal) (Wc : S768x8.Idx → EReal) (We : S8x768.Idx → EReal) (bc be : S8.Idx → EReal)
    (b : Fin 4) (s : Fin 8192) (r : Fin 16384) (hR : ∀ k, R (ix2 r k) = X (ix3 b s k)) :
    routeOut (F := Ideal) (proj0 (F := Ideal) R (weights Wc We) (biases bc be)) (ix1 r)
      = mix (F := Ideal) (logit X Wc bc b s) (preact X We be b s) := by
  have hix : ∀ e : Fin 16, (ValueIdx.ix2 e r : S16x16384.Idx) = ix2 e r := fun e => by funext a; fin_cases a <;> rfl
  show lane (F := Ideal) (fun e => proj0 (F := Ideal) R (weights Wc We) (biases bc be) (ValueIdx.ix2 e r)) = _
  unfold lane
  congr 1
  · funext e
    refine (congrArg (proj0 (F := Ideal) R (weights Wc We) (biases bc be)) (hix _)).trans ((proj_apply _ _ _ _ _).trans ?_)
    unfold logit
    rw [biases_router]
    simp only [hR, weights_router]
  · funext e
    refine (congrArg (proj0 (F := Ideal) R (weights Wc We) (biases bc be)) (hix _)).trans ((proj_apply _ _ _ _ _).trans ?_)
    unfold preact
    rw [biases_expert]
    simp only [hR, weights_expert]

/-- The two halves routed and joined. -/
theorem joined_apply (X : S4x8192x768.Idx → EReal) (Wc : S768x8.Idx → EReal) (We : S8x768.Idx → EReal) (bc be : S8.Idx → EReal) (b : Fin 4) (s : Fin 8192) :
    joined (routeOut (F := Ideal) (proj0 (F := Ideal) (rowsA X) (weights Wc We) (biases bc be)))
        (routeOut (F := Ideal) (proj0 (F := Ideal) (rowsB X) (weights Wc We) (biases bc be))) (ix3 b s 0)
      = mix (F := Ideal) (logit X Wc bc b s) (preact X We be b s) := by
  unfold joined
  generalize hA : routeOut (F := Ideal) (proj0 (F := Ideal) (rowsA X) (weights Wc We) (biases bc be)) = A
  generalize hB : routeOut (F := Ideal) (proj0 (F := Ideal) (rowsB X) (weights Wc We) (biases bc be)) = B
  pointwise
  have hb := b.isLt
  have hs := s.isLt
  split
  · rw [← hA]; exact route_apply X _ Wc We bc be b s _ fun k => rowsA_apply X b s _ rfl k
  · rw [← hB]; exact route_apply X _ Wc We bc be b s _ fun k => rowsB_apply X b s _ (by dsimp only; omega) k

/-! ## The buffers -/

variable (m : (ℓ : Loc nD τ sig) → Buf (Elt Ideal) ℓ) (c : Dev nD)

theorem W1_v0 : W1 m c (dr main_v0) = rows (m (c, dr main_arg0)) := by
  unfold W1 ops0
  after_results
  rfl
theorem W1_v5 : W1 m c (dr main_v5) = rowsA (m (c, dr main_arg0)) := by
  unfold W1 ops0
  after_results
  rfl
theorem W1_v2 : W1 m c (dr main_v2) = weights (m (c, dr main_arg1)) (m (c, dr main_arg3)) := by
  unfold W1 ops0
  after_results
  rfl
theorem W1_v4 : W1 m c (dr main_v4) = biases (m (c, dr main_arg2)) (m (c, dr main_arg4)) := by
  unfold W1 ops0
  after_results
  rfl

theorem W3_v7 : W3 m c (dr main_v7) = routeOut (F := Ideal) (proj0 (F := Ideal) (rowsA (m (c, dr main_arg0)))
    (weights (m (c, dr main_arg1)) (m (c, dr main_arg3))) (biases (m (c, dr main_arg2)) (m (c, dr main_arg4)))) := by
  unfold W3
  rw [Function.update_self]
  unfold W2
  rw [Function.update_self, W1_v5, W1_v2, W1_v4]

/-- A buffer that the first region and the first call leave. -/
theorem W3_kept (b : DevRef τ sig) (h6 : b ≠ dr main_v6) (h7 : b ≠ dr main_v7) : W3 m c b = W1 m c b := by
  unfold W3
  rw [Function.update_of_ne h7]
  unfold W2
  rw [Function.update_of_ne h6]

theorem W4_v8 : W4 m c (dr main_v8) = rowsB (m (c, dr main_arg0)) := by
  have h : W4 m c (dr main_v8) = extractStridedSlice S16384x768 ![16384, 0] (W3 m c (dr main_v0)) slices_S32768x768_S16384x768_16384_0 := by
    unfold W4 ops1
    after_results
  rw [h, W3_kept m c _ (by decide) (by decide), W1_v0]
theorem W4_kept (b : DevRef τ sig) (h : b ∉ ({dr main_v8} : Finset (DevRef τ sig))) : W4 m c b = W3 m c b := by
  unfold W4
  refine after_of_forall_not_mem _ _ fun op hop => ?_
  simp only [ops1, List.mem_cons, List.not_mem_nil, or_false] at hop
  subst hop
  exact h

theorem W6_v10 : W6 m c (dr main_v10) = routeOut (F := Ideal) (proj0 (F := Ideal) (rowsB (m (c, dr main_arg0)))
    (weights (m (c, dr main_arg1)) (m (c, dr main_arg3))) (biases (m (c, dr main_arg2)) (m (c, dr main_arg4)))) := by
  unfold W6
  rw [Function.update_self]
  unfold W5
  rw [Function.update_self, W4_v8, W4_kept m c _ (by decide), W4_kept m c _ (by decide), W3_kept m c _ (by decide) (by decide),
    W3_kept m c _ (by decide) (by decide), W1_v2, W1_v4]

theorem W6_v7 : W6 m c (dr main_v7) = W3 m c (dr main_v7) := by
  unfold W6
  rw [Function.update_of_ne (by decide)]
  unfold W5
  rw [Function.update_of_ne (by decide), W4_kept m c _ (by decide)]

/-- The kernel's result at row `(b, s)`. -/
theorem W7_apply (b : Fin 4) (s : Fin 8192) :
    (W7 m c (dr main_v12) (ix3 b s 0) : EReal)
      = mix (F := Ideal) (logit (m (c, dr main_arg0)) (m (c, dr main_arg1)) (m (c, dr main_arg2)) b s)
          (preact (m (c, dr main_arg0)) (m (c, dr main_arg3)) (m (c, dr main_arg4)) b s) := by
  have h : W7 m c (dr main_v12) = joined (W6 m c (dr main_v7)) (W6 m c (dr main_v10)) := by
    unfold W7 ops2
    after_results
    rfl
  rw [h, W6_v7, W3_v7, W6_v10]
  exact joined_apply _ _ _ _ _ b s

end Cert.Proof

end
-- ==== Proof.Algebraic.lean ====
/-
  The value claim: over the extended reals, under a finite router, the kernel's result array is the reference's.
-/
module

public import proofs.«01_k».proof.Proof.Frames
public import proofs.«01_k».proof.Proof.KerVal
public import Idealize.ShloMosaic.Lib.ReduceAll

@[expose] public section

noncomputable section

namespace Cert.Proof

open Idealize.ShloMosaic
open Idealize.ShloMosaic.TcCoe
open Idealize.SL.Sem
open Cert.Proof.Ref (logit preact)

/-! ## A finite router has finite logits -/

/-- The comparison of an absolute value against plus infinity, as the precondition makes it. -/
theorem abs_lt_top (x : EReal) (h : FloatOps.cmpf (F := Ideal) (φ := .f32) .olt (FloatOps.hostAbsf x) (FloatOps.ofBits .f32 0x7F800000#32) = 1#1) :
    x ≠ ⊥ ∧ x ≠ ⊤ := by
  have ht : Ideal.ofBits FTy.f32 0x7F800000#32 = (⊤ : EReal) := by simp [Ideal.ofBits, Ideal.ieee]
  have h' : BitVec.ofBool (decide (max x (-x) < Ideal.ofBits FTy.f32 0x7F800000#32)) = 1#1 := h
  rw [ht] at h'
  have hlt : max x (-x) < ⊤ := by
    by_contra hn
    rw [decide_eq_false hn] at h'
    exact absurd h' (by decide)
  obtain ⟨h1, h2⟩ := max_lt_iff.mp hlt
  refine ⟨fun e => ?_, h1.ne⟩
  rw [e, EReal.neg_bot] at h2
  exact absurd h2 (lt_irrefl _)

/-- A sum of finite numbers is finite. -/
theorem sum_finite {n : ℕ} (f : Fin n → EReal) (hf : ∀ k, f k ≠ ⊥ ∧ f k ≠ ⊤) : ∃ r : ℝ, ∑ k, f k = r := by
  induction n with
  | zero => exact ⟨0, by simp⟩
  | succ n ih =>
    obtain ⟨r, hr⟩ := ih (fun k => f k.succ) fun k => hf _
    exact ⟨(f 0).toReal + r, by rw [Fin.sum_univ_succ, hr, EReal.coe_add, EReal.coe_toReal (hf 0).2 (hf 0).1]⟩

theorem logit_finite (x : Cert.ReferenceIdeal.S4x8192x768.Idx → EReal) (wc : Cert.ReferenceIdeal.S768x8.Idx → EReal) (bc : Cert.ReferenceIdeal.S8.Idx → EReal)
    (hx : ∀ i, x i ≠ ⊥ ∧ x i ≠ ⊤) (hw : ∀ i, wc i ≠ ⊥ ∧ wc i ≠ ⊤) (hb : ∀ i, bc i ≠ ⊥ ∧ bc i ≠ ⊤) (b : Fin 4) (s : Fin 8192) (e : Fin 8) :
    logit x wc bc b s e ≠ ⊥ ∧ logit x wc bc b s e ≠ ⊤ := by
  obtain ⟨r, hr⟩ := sum_finite (fun k : Fin 768 => x (ix3 b s k) * wc (ix2 k e)) fun k => by
    lift x (ix3 b s k) to ℝ using ⟨(hx _).2, (hx _).1⟩ with u
    lift wc (ix2 k e) to ℝ using ⟨(hw _).2, (hw _).1⟩ with v
    rw [← EReal.coe_mul]
    exact ⟨EReal.coe_ne_bot _, EReal.coe_ne_top _⟩
  unfold logit
  rw [hr]
  lift bc (ix1 e) to ℝ using ⟨(hb _).2, (hb _).1⟩ with u
  rw [← EReal.coe_add]
  exact ⟨EReal.coe_ne_bot _, EReal.coe_ne_top _⟩

/-- What the precondition says: the input, the router's weights and its biases are finite. -/
theorem pre_finite (x : FVec Ideal Cert.Pre_finite_router.S4x8192x768 .f32) (wc : FVec Ideal Cert.Pre_finite_router.S768x8 .f32)
    (bc : FVec Ideal Cert.Pre_finite_router.S8 .f32) (we : FVec Ideal Cert.Pre_finite_router.S8x768 .f32) (be : FVec Ideal Cert.Pre_finite_router.S8 .f32)
    (h : Cert.Pre_finite_router.fn (F := Ideal) x wc bc we be = fun _ => 1#1) :
    (∀ i, (x i : EReal) ≠ ⊥ ∧ (x i : EReal) ≠ ⊤) ∧ (∀ i, (wc i : EReal) ≠ ⊥ ∧ (wc i : EReal) ≠ ⊤) ∧ (∀ i, (bc i : EReal) ≠ ⊥ ∧ (bc i : EReal) ≠ ⊤) := by
  have h0 := congrFun h ix0
  dsimp only [Cert.Pre_finite_router.fn] at h0
  have and_one : ∀ a b : BitVec 1, IntOp.andi a b = 1#1 → a = 1#1 ∧ b = 1#1 := by decide
  obtain ⟨h1, hbc⟩ := and_one _ _ h0
  obtain ⟨hx, hw⟩ := and_one _ _ h1
  exact ⟨fun i => abs_lt_top _ (Host.reduce_andi_all _ _ _ _ _ hx i), fun i => abs_lt_top _ (Host.reduce_andi_all _ _ _ _ _ hw i),
    fun i => abs_lt_top _ (Host.reduce_andi_all _ _ _ _ _ hbc i)⟩

/-! ## The claim -/

theorem algebraic : Cert.algebraic_KernelIdeal_ReferenceIdeal_pre_finite_router := by
  intro m g m' g' hpre hargs
  refine ⟨fun c => W7 m c (dr Cert.KernelIdeal.main_v12), (θ_run _ _ _).mono (fun _ h c => h.1 c) (run_main (F := Ideal) m g),
    (θ_run _ _ _).mono (fun r h c => ⟨(h c).1.trans ?_, (h c).2⟩) (Cert.ReferenceIdeal.Value.run (F := Ideal) m' g')⟩
  obtain ⟨e0, e1, e2, e3, e4⟩ := hargs c
  obtain ⟨hx, hw, hb⟩ := pre_finite _ _ _ _ _ (hpre c)
  have hl := logit_finite _ _ _ hx hw hb
  have key : ∀ (b : Fin 4) (s : Fin 8192), (Cert.ReferenceIdeal.Value.res_main_v32 (F := Ideal) m' c (ix3 b s 0) : EReal)
      = W7 m c (dr Cert.KernelIdeal.main_v12) (ix3 b s 0) := by
    intro b s
    refine (Ref.res_apply m' c b s (fun e => ?_) (fun e => ?_)).trans (Eq.trans ?_ (W7_apply m c b s).symm)
    · rw [e0, e1, e2]; exact (hl b s e).1
    · rw [e0, e1, e2]; exact (hl b s e).2
    · rw [e0, e1, e2, e3, e4]
  funext i
  have hi : i = (ix3 (i 0) (i 1) 0 : Cert.ReferenceIdeal.S4x8192x1.Idx) := by
    funext a
    fin_cases a
    · rfl
    · rfl
    · exact Fin.ext (Nat.lt_one_iff.mp (i 2).isLt)
  rw [hi]
  exact key (i 0) (i 1)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, preFacts,
    frame_kernel, frame_kernelIdeal, fun m g _ => frame_kernelIdeal m g trivial,
    frame_reference, fun m g _ => frame_reference m g trivial, preserves, algebraic⟩

end Cert.Proof

end
